-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ring_points [hPre_ring_points : Cert.Pre_ring_points.Facts] (m : (ℓ : Loc Cert.KernelIdeal.nD Cert.KernelIdeal.τ Cert.KernelIdeal.sig) → Buf (Elt Ideal) ℓ) : Prop :=
  ∀ c : Dev Cert.KernelIdeal.nD,
    (Cert.Pre_ring_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ring_points [hPre_ring_points : Cert.Pre_ring_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ring_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_ring_points [hKernelIdeal : Cert.KernelIdeal.Facts] [hPre_ring_points : Cert.Pre_ring_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ring_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_ring_points [hReferenceIdeal : Cert.ReferenceIdeal.Facts] [hPre_ring_points : Cert.Pre_ring_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ring_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_ring_points [hKernelIdeal : Cert.KernelIdeal.Facts] [hReferenceIdeal : Cert.ReferenceIdeal.Facts] [hPre_ring_points : Cert.Pre_ring_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ring_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_ring_points : Cert.Pre_ring_points.Facts),
    quiescent_Kernel (hKernel := hKernel)
    ∧ quiescent_KernelIdeal (hKernelIdeal := hKernelIdeal)
    ∧ quiescent_KernelIdeal_pre_ring_points (hKernelIdeal := hKernelIdeal) (hPre_ring_points := hPre_ring_points)
    ∧ quiescent_ReferenceIdeal (hReferenceIdeal := hReferenceIdeal)
    ∧ quiescent_ReferenceIdeal_pre_ring_points (hReferenceIdeal := hReferenceIdeal) (hPre_ring_points := hPre_ring_points)
    ∧ preserves_Kernel_KernelIdeal
    ∧ algebraic_KernelIdeal_ReferenceIdeal_pre_ring_points (hKernelIdeal := hKernelIdeal) (hReferenceIdeal := hReferenceIdeal) (hPre_ring_points := hPre_ring_points)
-- ==== Pre_ring_points.lean ====
abbrev S16x3x512x512 : Shape := ⟨4, ![16, 3, 512, 512]⟩
abbrev S184720 : Shape := ⟨1, ![184720]⟩
abbrev S1x255 : Shape := ⟨2, ![1, 255]⟩
abbrev S1 : Shape := ⟨1, ![1]⟩
abbrev S_ : Shape := ⟨0, ![]⟩
abbrev S262144 : Shape := ⟨1, ![262144]⟩
abbrev S184720x1 : Shape := ⟨2, ![184720, 1]⟩
abbrev S512x512 : Shape := ⟨2, ![512, 512]⟩

class Facts : Prop where
  bcast_S_S184720 : S_.BroadcastsInDim S184720 (![] : Fin 0 → Fin S184720.rank)
  bcast_S_S262144 : S_.BroadcastsInDim S262144 (![] : Fin 0 → Fin S262144.rank)
  bcast_S184720_S184720x1_0 : S184720.BroadcastsInDim S184720x1 (![0] : Fin 1 → Fin S184720x1.rank)
  bcast_S_S512x512 : S_.BroadcastsInDim S512x512 (![] : Fin 0 → Fin S512x512.rank)
  shapeCasts_S262144_S512x512 : S262144.ShapeCasts S512x512
  reducesTo_S184720_S_d0 : S184720.ReducesTo [0] S_
  h_S_ : 0 < S_.numel
  scatter_S262144_S184720x1_S184720_n_0_0_1_wf : ScatterDims.WF S262144 S184720x1 S184720 [] [0] [0] 1

variable [Facts]

def scatter_S262144_S184720x1_S184720_n_0_0_1 : ScatterDims S262144 S184720x1 S184720 where
  updateWindowDims := []
  insertedWindowDims := [0]
  scatterDimsToOperandDims := [0]
  indexVectorDim := 1
  wf := scatter_S262144_S184720x1_S184720_n_0_0_1_wf
def fn_part4 {F : FTy → Type} [FloatOps F] (main_v30 : IVec S184720 1) (main_v37 : FVec F S262144 .f32) (main_v48 : FVec F S512x512 .f32) (main_v49 : FVec F S512x512 .f32) (main_v52 : FVec F S512x512 .f32) (main_v74 : IVec S512x512 1) (main_v75 : FVec F S512x512 .f32) : IVec S512x512 1 :=
  let main_v76 : FVec F S512x512 .f32 := addf main_v52 main_v48
  let main_v77 : IVec S512x512 1 := cmpf .ole main_v75 main_v76
  let main_v78 : IVec S512x512 1 := andi main_v74 main_v77
  let main_cst_18 : FVec F S_ .f32 := constant S_ .f32 0x3F800000#32
  let main_v79 : FVec F S512x512 .f32 := broadcastInDim S512x512 ![] bcast_S_S512x512 main_cst_18
  let main_cst_19 : FVec F S_ .f32 := constant S_ .f32 0x00000000#32
  let main_v80 : FVec F S512x512 .f32 := broadcastInDim S512x512 ![] bcast_S_S512x512 main_cst_19
  let main_v81 : IVec S512x512 1 := cmpf .oeq main_v49 main_v80
  let main_v82 : IVec S512x512 1 := cmpf .oeq main_v49 main_v48
  let main_v83 : IVec S512x512 1 := ori main_v81 main_v82
  let main_cst_20 : FVec F S_ .f32 := constant S_ .f32 0x40000000#32
  let main_v84 : FVec F S512x512 .f32 := broadcastInDim S512x512 ![] bcast_S_S512x512 main_cst_20
  let main_v85 : FVec F S512x512 .f32 := mulf main_v84 main_v79
  let main_v86 : FVec F S512x512 .f32 := select main_v83 main_v85 main_v79
  let main_cst_21 : FVec F S_ .f32 := constant S_ .f32 0x00000000#32
  let main_v87 : FVec F S512x512 .f32 := broadcastInDim S512x512 ![] bcast_S_S512x512 main_cst_21
  let main_v88 : FVec F S512x512 .f32 := mulf main_v87 main_v79
  let main_v89 : FVec F S512x512 .f32 := select main_v78 main_v86 main_v88
  let main_v90 : FVec F S512x512 .f32 := shapeCast S512x512 main_v37 shapeCasts_S262144_S512x512
  let main_v91 : IVec S512x512 1 := cmpf .oeq main_v90 main_v89
  let main_c_22 : IVec S_ 1 := constantI S_ 1 1#1
  let main_v92 : IVec S_ 1 := (fun x v => Host.reduce IntOp.andi x v reducesTo_S184720_S_d0 h_S_) main_v30 main_c_22
  let main_v93 : IVec S512x512 1 := broadcastInDim S512x512 ![] bcast_S_S512x512 main_v92
  let main_v94 : IVec S512x512 1 := andi main_v91 main_v93
  main_v94

def fn_part3 {F : FTy → Type} [FloatOps F] (main_v30 : IVec S184720 1) (main_v37 : FVec F S262144 .f32) (main_v39 : FVec F S512x512 .f32) (main_v41 : FVec F S512x512 .f32) (main_v48 : FVec F S512x512 .f32) (main_v49 : FVec F S512x512 .f32) (main_v52 : FVec F S512x512 .f32) (main_v54 : FVec F S512x512 .f32) (main_v55 : FVec F S512x512 .f32) : IVec S512x512 1 :=
  let main_v56 : FVec F S512x512 .f32 := subf main_v39 main_v55
  let main_v57 : FVec F S512x512 .f32 := mulf main_v54 main_v56
  let main_cst_14 : FVec F S_ .f32 := constant S_ .f32 0x43800000#32
  let main_v58 : FVec F S512x512 .f32 := broadcastInDim S512x512 ![] bcast_S_S512x512 main_cst_14
  let main_v59 : FVec F S512x512 .f32 := subf main_v41 main_v58
  let main_cst_15 : FVec F S_ .f32 := constant S_ .f32 0x43800000#32
  let main_v60 : FVec F S512x512 .f32 := broadcastInDim S512x512 ![] bcast_S_S512x512 main_cst_15
  let main_v61 : FVec F S512x512 .f32 := subf main_v41 main_v60
  let main_v62 : FVec F S512x512 .f32 := mulf main_v59 main_v61
  let main_v63 : FVec F S512x512 .f32 := addf main_v57 main_v62
  let main_v64 : FVec F S512x512 .f32 := Host.sqrt main_v63
  let main_v65 : FVec F S512x512 .f32 := Host.roundeven main_v64
  let main_cst_16 : FVec F S_ .f32 := constant S_ .f32 0x3F800000#32
  let main_v66 : FVec F S512x512 .f32 := broadcastInDim S512x512 ![] bcast_S_S512x512 main_cst_16
  let main_v67 : IVec S512x512 1 := cmpf .oge main_v65 main_v66
  let main_cst_17 : FVec F S_ .f32 := constant S_ .f32 0x437E0000#32
  let main_v68 : FVec F S512x512 .f32 := broadcastInDim S512x512 ![] bcast_S_S512x512 main_cst_17
  let main_v69 : IVec S512x512 1 := cmpf .ole main_v65 main_v68
  let main_v70 : IVec S512x512 1 := andi main_v67 main_v69
  let main_v71 : FVec F S512x512 .f32 := subf main_v52 main_v48
  let main_v72 : FVec F S512x512 .f32 := mulf main_v65 main_v65
  let main_v73 : IVec S512x512 1 := cmpf .olt main_v71 main_v72
  let main_v74 : IVec S512x512 1 := andi main_v70 main_v73
  let main_v75 : FVec F S512x512 .f32 := mulf main_v65 main_v65
  fn_part4 (F := F) main_v30 main_v37 main_v48 main_v49 main_v52 main_v74 main_v75

def fn_part2 {F : FTy → Type} [FloatOps F] (main_v30 : IVec S184720 1) (main_v31 : FVec F S184720 .f32) (main_v34 : IVec S184720 32) (main_v35 : FVec F S262144 .f32) : IVec S512x512 1 :=
  let main_v36 : IVec S184720x1 32 := broadcastInDim S184720x1 ![0] bcast_S184720_S184720x1_0 main_v34
  let main_v37 : FVec F S262144 .f32 := (fun x i u => Host.scatterAdd scatter_S262144_S184720x1_S184720_n_0_0_1 x i u) main_v35 main_v36 main_v31
  let main_v38 : IVec S512x512 32 := iotaInDim S512x512 32 0
  let main_v39 : FVec F S512x512 .f32 := sitofp .f32 main_v38
  let main_v40 : IVec S512x512 32 := iotaInDim S512x512 32 1
  let main_v41 : FVec F S512x512 .f32 := sitofp .f32 main_v40
  let main_cst_10 : FVec F S_ .f32 := constant S_ .f32 0x43800000#32
  let main_v42 : FVec F S512x512 .f32 := broadcastInDim S512x512 ![] bcast_S_S512x512 main_cst_10
  let main_v43 : FVec F S512x512 .f32 := subf main_v39 main_v42
  let main_v44 : FVec F S512x512 .f32 := Host.absf main_v43
  let main_cst_11 : FVec F S_ .f32 := constant S_ .f32 0x43800000#32
  let main_v45 : FVec F S512x512 .f32 := broadcastInDim S512x512 ![] bcast_S_S512x512 main_cst_11
  let main_v46 : FVec F S512x512 .f32 := subf main_v41 main_v45
  let main_v47 : FVec F S512x512 .f32 := Host.absf main_v46
  let main_v48 : FVec F S512x512 .f32 := maximumf main_v44 main_v47
  let main_v49 : FVec F S512x512 .f32 := minimumf main_v44 main_v47
  let main_v50 : FVec F S512x512 .f32 := mulf main_v44 main_v44
  let main_v51 : FVec F S512x512 .f32 := mulf main_v47 main_v47
  let main_v52 : FVec F S512x512 .f32 := addf main_v50 main_v51
  let main_cst_12 : FVec F S_ .f32 := constant S_ .f32 0x43800000#32
  let main_v53 : FVec F S512x512 .f32 := broadcastInDim S512x512 ![] bcast_S_S512x512 main_cst_12
  let main_v54 : FVec F S512x512 .f32 := subf main_v39 main_v53
  let main_cst_13 : FVec F S_ .f32 := constant S_ .f32 0x43800000#32
  let main_v55 : FVec F S512x512 .f32 := broadcastInDim S512x512 ![] bcast_S_S512x512 main_cst_13
  fn_part3 (F := F) main_v30 main_v37 main_v39 main_v41 main_v48 main_v49 main_v52 main_v54 main_v55

def fn_part1 {F : FTy → Type} [FloatOps F] (main_arg2 : IVec S184720 32) (main_arg3 : IVec S184720 32) (main_arg4 : IVec S184720 32) (main_v17 : IVec S184720 32) (main_c : IVec S_ 32) : IVec S512x512 1 :=
  let main_v18 : IVec S184720 32 := broadcastInDim S184720 ![] bcast_S_S184720 main_c
  let main_v19 : IVec S184720 1 := cmpi .sge main_arg2 main_v18
  let main_c_4 : IVec S_ 32 := constantI S_ 32 512#32
  let main_v20 : IVec S184720 32 := broadcastInDim S184720 ![] bcast_S_S184720 main_c_4
  let main_v21 : IVec S184720 1 := cmpi .slt main_arg2 main_v20
  let main_v22 : IVec S184720 1 := andi main_v19 main_v21
  let main_c_5 : IVec S_ 32 := constantI S_ 32 0#32
  let main_v23 : IVec S184720 32 := broadcastInDim S184720 ![] bcast_S_S184720 main_c_5
  let main_v24 : IVec S184720 1 := cmpi .sge main_arg3 main_v23
  let main_v25 : IVec S184720 1 := andi main_v22 main_v24
  let main_c_6 : IVec S_ 32 := constantI S_ 32 512#32
  let main_v26 : IVec S184720 32 := broadcastInDim S184720 ![] bcast_S_S184720 main_c_6
  let main_v27 : IVec S184720 1 := cmpi .slt main_arg3 main_v26
  let main_v28 : IVec S184720 1 := andi main_v25 main_v27
  let main_v29 : IVec S184720 1 := cmpi .eq main_arg4 main_v17
  let main_v30 : IVec S184720 1 := andi main_v28 main_v29
  let main_cst_7 : FVec F S_ .f32 := constant S_ .f32 0x3F800000#32
  let main_v31 : FVec F S184720 .f32 := broadcastInDim S184720 ![] bcast_S_S184720 main_cst_7
  let main_c_8 : IVec S_ 32 := constantI S_ 32 512#32
  let main_v32 : IVec S184720 32 := broadcastInDim S184720 ![] bcast_S_S184720 main_c_8
  let main_v33 : IVec S184720 32 := muli main_arg2 main_v32
  let main_v34 : IVec S184720 32 := addi main_v33 main_arg3
  let main_cst_9 : FVec F S_ .f32 := constant S_ .f32 0x00000000#32
  let main_v35 : FVec F S262144 .f32 := broadcastInDim S262144 ![] bcast_S_S262144 main_cst_9
  fn_part2 (F := F) main_v30 main_v31 main_v34 main_v35

def fn {F : FTy → Type} [FloatOps F] (main_arg0 : FVec F S16x3x512x512 .f32) (main_arg1 : FVec F S16x3x512x512 .f32) (main_arg2 : IVec S184720 32) (main_arg3 : IVec S184720 32) (main_arg4 : IVec S184720 32) (main_arg5 : FVec F S1x255 .f32) (main_arg6 : FVec F S1 .f32) : IVec S512x512 1 :=
  let main_v0 : FVec F S184720 .f32 := sitofp .f32 main_arg2
  let main_v1 : FVec F S184720 .f32 := sitofp .f32 main_arg3
  let main_cst : FVec F S_ .f32 := constant S_ .f32 0x43800000#32
  let main_v2 : FVec F S184720 .f32 := broadcastInDim S184720 ![] bcast_S_S184720 main_cst
  let main_v3 : FVec F S184720 .f32 := subf main_v0 main_v2
  let main_cst_0 : FVec F S_ .f32 := constant S_ .f32 0x43800000#32
  let main_v4 : FVec F S184720 .f32 := broadcastInDim S184720 ![] bcast_S_S184720 main_cst_0
  let main_v5 : FVec F S184720 .f32 := subf main_v0 main_v4
  let main_v6 : FVec F S184720 .f32 := mulf main_v3 main_v5
  let main_cst_1 : FVec F S_ .f32 := constant S_ .f32 0x43800000#32
  let main_v7 : FVec F S184720 .f32 := broadcastInDim S184720 ![] bcast_S_S184720 main_cst_1
  let main_v8 : FVec F S184720 .f32 := subf main_v1 main_v7
  let main_cst_2 : FVec F S_ .f32 := constant S_ .f32 0x43800000#32
  let main_v9 : FVec F S184720 .f32 := broadcastInDim S184720 ![] bcast_S_S184720 main_cst_2
  let main_v10 : FVec F S184720 .f32 := subf main_v1 main_v9
  let main_v11 : FVec F S184720 .f32 := mulf main_v8 main_v10
  let main_v12 : FVec F S184720 .f32 := addf main_v6 main_v11
  let main_v13 : FVec F S184720 .f32 := Host.sqrt main_v12
  let main_v14 : FVec F S184720 .f32 := Host.roundeven main_v13
  let main_cst_3 : FVec F S_ .f32 := constant S_ .f32 0x3F800000#32
  let main_v15 : FVec F S184720 .f32 := broadcastInDim S184720 ![] bcast_S_S184720 main_cst_3
  let main_v16 : FVec F S184720 .f32 := subf main_v14 main_v15
  let main_v17 : IVec S184720 32 := fptosi 32 main_v16
  let main_c : IVec S_ 32 := constantI S_ 32 0#32
  fn_part1 (F := F) main_arg2 main_arg3 main_arg4 main_v17 main_c
-- ==== Kernel.lean ====
abbrev S16x3x512x512 : Shape := ⟨4, ![16, 3, 512, 512]⟩
abbrev S184720 : Shape := ⟨1, ![184720]⟩
abbrev S1x255 : Shape := ⟨2, ![1, 255]⟩
abbrev S1 : Shape := ⟨1, ![1]⟩
abbrev S48x512x512 : Shape := ⟨3, ![48, 512, 512]⟩
abbrev S512x512 : Shape := ⟨2, ![512, 512]⟩
abbrev S_ : Shape := ⟨0, ![]⟩
abbrev S272x640 : Shape := ⟨2, ![272, 640]⟩
abbrev S512x272 : Shape := ⟨2, ![512, 272]⟩
abbrev S272x512 : Shape := ⟨2, ![272, 512]⟩
abbrev S48x272x640 : Shape := ⟨3, ![48, 272, 640]⟩
abbrev S2x512x512 : Shape := ⟨3, ![2, 512, 512]⟩
abbrev S2x272x640 : Shape := ⟨3, ![2, 272, 640]⟩
abbrev S1x512x512 : Shape := ⟨3, ![1, 512, 512]⟩
abbrev S2048x512 : Shape := ⟨2, ![2048, 512]⟩
abbrev S2048x272 : Shape := ⟨2, ![2048, 272]⟩
abbrev S272x272 : Shape := ⟨2, ![272, 272]⟩
abbrev S272x48 : Shape := ⟨2, ![272, 48]⟩
abbrev S1x272x640 : Shape := ⟨3, ![1, 272, 640]⟩
abbrev S2x144x256 : Shape := ⟨3, ![2, 144, 256]⟩
abbrev S48x8x640 : Shape := ⟨3, ![48, 8, 640]⟩
abbrev S1x144x256 : Shape := ⟨3, ![1, 144, 256]⟩
abbrev S640x1 : Shape := ⟨2, ![640, 1]⟩
abbrev S640x256 : Shape := ⟨2, ![640, 256]⟩
abbrev S144x256 : Shape := ⟨2, ![144, 256]⟩
abbrev S48x1x640 : Shape := ⟨3, ![48, 1, 640]⟩
abbrev S48x640 : Shape := ⟨2, ![48, 640]⟩
abbrev S144x640 : Shape := ⟨2, ![144, 640]⟩
abbrev S1x254 : Shape := ⟨2, ![1, 254]⟩
abbrev S254 : Shape := ⟨1, ![254]⟩
abbrev S2 : Shape := ⟨1, ![2]⟩
abbrev S256 : Shape := ⟨1, ![256]⟩
abbrev S1x1 : Shape := ⟨2, ![1, 1]⟩
abbrev S1x256 : Shape := ⟨2, ![1, 256]⟩
abbrev S8x256 : Shape := ⟨2, ![8, 256]⟩
abbrev S48x128 : Shape := ⟨2, ![48, 128]⟩
abbrev S48x256 : Shape := ⟨2, ![48, 256]⟩
abbrev S48 : Shape := ⟨1, ![48]⟩
abbrev S48x1 : Shape := ⟨2, ![48, 1]⟩
abbrev S16x3x1 : Shape := ⟨3, ![16, 3, 1]⟩

abbrev nBuf : Space → Nat
  | .hbm => 140
  | .vmem => 30
  | .smem => 0
  | _ => 0

abbrev hbmTy0_0 (i : Nat) : BufTy := match i % 128 with
  | 0 => ⟨S16x3x512x512, .f32⟩
  | 1 => ⟨S16x3x512x512, .f32⟩
  | 2 => ⟨S184720, .i32⟩
  | 3 => ⟨S184720, .i32⟩
  | 4 => ⟨S184720, .i32⟩
  | 5 => ⟨S1x255, .f32⟩
  | 6 => ⟨S1, .f32⟩
  | 7 => ⟨S48x512x512, .f32⟩
  | 8 => ⟨S48x512x512, .f32⟩
  | 9 => ⟨S512x512, .i32⟩
  | 10 => ⟨S512x512, .i32⟩
  | 11 => ⟨S512x512, .i32⟩
  | 12 => ⟨S_, .i32⟩
  | 13 => ⟨S512x512, .i32⟩
  | 14 => ⟨S512x512, .i32⟩
  | 15 => ⟨S512x512, .f32⟩
  | 16 => ⟨S_, .f32⟩
  | 17 => ⟨S_, .f32⟩
  | 18 => ⟨S_, .f32⟩
  | 19 => ⟨S_, .f32⟩
  | 20 => ⟨S512x512, .f32⟩
  | 21 => ⟨S512x512, .f32⟩
  | 22 => ⟨S272x640, .i32⟩
  | 23 => ⟨S272x640, .f32⟩
  | 24 => ⟨S272x640, .i32⟩
  | 25 => ⟨S272x640, .f32⟩
  | 26 => ⟨S_, .f32⟩
  | 27 => ⟨S272x640, .f32⟩
  | 28 => ⟨S272x640, .i1⟩
  | 29 => ⟨S_, .f32⟩
  | 30 => ⟨S272x640, .f32⟩
  | 31 => ⟨S272x640, .f32⟩
  | 32 => ⟨S272x640, .f32⟩
  | 33 => ⟨S_, .f32⟩
  | 34 => ⟨S272x640, .f32⟩
  | 35 => ⟨S272x640, .f32⟩
  | 36 => ⟨S272x640, .f32⟩
  | 37 => ⟨S_, .f32⟩
  | 38 => ⟨S272x640, .f32⟩
  | 39 => ⟨S272x640, .f32⟩
  | 40 => ⟨S272x640, .f32⟩
  | 41 => ⟨S272x640, .f32⟩
  | 42 => ⟨S272x640, .f32⟩
  | 43 => ⟨S272x640, .f32⟩
  | 44 => ⟨S272x640, .f32⟩
  | 45 => ⟨S272x640, .f32⟩
  | 46 => ⟨S272x640, .f32⟩
  | 47 => ⟨S272x640, .f32⟩
  | 48 => ⟨S_, .f32⟩
  | 49 => ⟨S272x640, .f32⟩
  | 50 => ⟨S272x640, .i1⟩
  | 51 => ⟨S_, .f32⟩
  | 52 => ⟨S272x640, .f32⟩
  | 53 => ⟨S272x640, .i1⟩
  | 54 => ⟨S272x640, .i1⟩
  | 55 => ⟨S272x640, .f32⟩
  | 56 => ⟨S272x640, .f32⟩
  | 57 => ⟨S272x640, .i1⟩
  | 58 => ⟨S272x640, .i1⟩
  | 59 => ⟨S272x640, .f32⟩
  | 60 => ⟨S272x640, .f32⟩
  | 61 => ⟨S272x640, .i1⟩
  | 62 => ⟨S272x640, .i1⟩
  | 63 => ⟨S_, .f32⟩
  | 64 => ⟨S272x640, .f32⟩
  | 65 => ⟨S272x640, .i1⟩
  | 66 => ⟨S_, .f32⟩
  | 67 => ⟨S272x640, .f32⟩
  | 68 => ⟨S272x640, .i1⟩
  | 69 => ⟨S_, .f32⟩
  | 70 => ⟨S272x640, .f32⟩
  | 71 => ⟨S272x640, .i1⟩
  | 72 => ⟨S_, .f32⟩
  | 73 => ⟨S272x640, .f32⟩
  | 74 => ⟨S272x640, .i1⟩
  | 75 => ⟨S272x640, .i1⟩
  | 76 => ⟨S272x640, .i1⟩
  | 77 => ⟨S272x640, .i1⟩
  | 78 => ⟨S_, .f32⟩
  | 79 => ⟨S272x640, .f32⟩
  | 80 => ⟨S_, .f32⟩
  | 81 => ⟨S272x640, .f32⟩
  | 82 => ⟨S272x640, .i1⟩
  | 83 => ⟨S272x640, .i1⟩
  | 84 => ⟨S272x640, .i1⟩
  | 85 => ⟨S_, .f32⟩
  | 86 => ⟨S272x640, .f32⟩
  | 87 => ⟨S272x640, .f32⟩
  | 88 => ⟨S272x640, .f32⟩
  | 89 => ⟨S_, .f32⟩
  | 90 => ⟨S272x640, .f32⟩
  | 91 => ⟨S272x640, .i1⟩
  | 92 => ⟨S_, .f32⟩
  | 93 => ⟨S272x640, .f32⟩
  | 94 => ⟨S272x640, .f32⟩
  | 95 => ⟨S272x640, .f32⟩
  | 96 => ⟨S272x640, .f32⟩
  | 97 => ⟨S512x512, .f32⟩
  | 98 => ⟨S512x512, .f32⟩
  | 99 => ⟨S512x512, .f32⟩
  | 100 => ⟨S272x640, .i1⟩
  | 101 => ⟨S_, .f32⟩
  | 102 => ⟨S272x640, .f32⟩
  | 103 => ⟨S272x640, .f32⟩
  | 104 => ⟨S272x640, .f32⟩
  | 105 => ⟨S272x640, .f32⟩
  | 106 => ⟨S512x272, .f32⟩
  | 107 => ⟨S512x272, .f32⟩
  | 108 => ⟨S272x512, .f32⟩
  | 109 => ⟨S272x512, .f32⟩
  | 110 => ⟨S48x272x640, .f32⟩
  | 111 => ⟨S48x272x640, .f32⟩
  | 112 => ⟨S48x272x640, .f32⟩
  | 113 => ⟨S48x272x640, .f32⟩
  | 114 => ⟨S2x144x256, .f32⟩
  | 115 => ⟨S1x254, .f32⟩
  | 116 => ⟨S254, .f32⟩
  | 117 => ⟨S_, .f32⟩
  | 118 => ⟨S2, .f32⟩
  | 119 => ⟨S256, .f32⟩
  | 120 => ⟨S1x1, .f32⟩
  | 121 => ⟨S_, .f32⟩
  | 122 => ⟨S_, .f32⟩
  | 123 => ⟨S_, .f32⟩
  | 124 => ⟨S256, .f32⟩
  | 125 => ⟨S_, .f32⟩
  | 126 => ⟨S256, .f32⟩
  | 127 => ⟨S1x256, .f32⟩
  | _ => ⟨S16x3x512x512, .f32⟩

abbrev hbmTy0_1 (i : Nat) : BufTy := match i % 128 with
  | 0 => ⟨S1x256, .f32⟩
  | 1 => ⟨S1x256, .f32⟩
  | 2 => ⟨S1x256, .f32⟩
  | 3 => ⟨S1x256, .f32⟩
  | 4 => ⟨S1x256, .f32⟩
  | 5 => ⟨S1x256, .f32⟩
  | 6 => ⟨S1x256, .f32⟩
  | 7 => ⟨S8x256, .f32⟩
  | 8 => ⟨S48x128, .f32⟩
  | 9 => ⟨S48x1, .f32⟩
  | 10 => ⟨S48, .f32⟩
  | 11 => ⟨S16x3x1, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S512x272, .f32⟩
  | .local _ .vmem, ⟨5, _⟩ => ⟨S512x272, .f32⟩
  | .local _ .vmem, ⟨6, _⟩ => ⟨S272x512, .f32⟩
  | .local _ .vmem, ⟨7, _⟩ => ⟨S272x512, .f32⟩
  | .local _ .vmem, ⟨8, _⟩ => ⟨S272x640, .f32⟩
  | .local _ .vmem, ⟨9, _⟩ => ⟨S2x272x640, .f32⟩
  | .local _ .vmem, ⟨10, _⟩ => ⟨S2x272x640, .f32⟩
  | .local _ .vmem, ⟨11, _⟩ => ⟨S2x272x640, .f32⟩
  | .local _ .vmem, ⟨12, _⟩ => ⟨S2x272x640, .f32⟩
  | .local _ .vmem, ⟨13, _⟩ => ⟨S2x272x640, .f32⟩
  | .local _ .vmem, ⟨14, _⟩ => ⟨S2x272x640, .f32⟩
  | .local _ .vmem, ⟨15, _⟩ => ⟨S2x272x640, .f32⟩
  | .local _ .vmem, ⟨16, _⟩ => ⟨S2x272x640, .f32⟩
  | .local _ .vmem, ⟨17, _⟩ => ⟨S48x8x640, .f32⟩
  | .local _ .vmem, ⟨18, _⟩ => ⟨S48x8x640, .f32⟩
  | .local _ .vmem, ⟨19, _⟩ => ⟨S48x8x640, .f32⟩
  | .local _ .vmem, ⟨20, _⟩ => ⟨S48x8x640, .f32⟩
  | .local _ .vmem, ⟨21, _⟩ => ⟨S48x8x640, .f32⟩
  | .local _ .vmem, ⟨22, _⟩ => ⟨S48x8x640, .f32⟩
  | .local _ .vmem, ⟨23, _⟩ => ⟨S48x8x640, .f32⟩
  | .local _ .vmem, ⟨24, _⟩ => ⟨S48x8x640, .f32⟩
  | .local _ .vmem, ⟨25, _⟩ => ⟨S1x144x256, .f32⟩
  | .local _ .vmem, ⟨26, _⟩ => ⟨S1x144x256, .f32⟩
  | .local _ .vmem, ⟨27, _⟩ => ⟨S2x144x256, .f32⟩
  | .local _ .vmem, ⟨28, _⟩ => ⟨S8x256, .f32⟩
  | .local _ .vmem, ⟨29, _⟩ => ⟨S48x128, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84_0 : Ref sig .tc := ⟨.hbm, 110, rfl⟩
abbrev main_v84_1 : Ref sig .tc := ⟨.hbm, 111, rfl⟩
abbrev main_v84_2 : Ref sig .tc := ⟨.hbm, 112, rfl⟩
abbrev main_v84_3 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_17 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_18 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg2_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc2_sem0_0 : DmaSem sig := 27
abbrev cc2_sem1_0 : DmaSem sig := 28
abbrev cc2_sem2_0 : DmaSem sig := 29

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x272 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x272 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S272x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S272x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S272x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x272x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x272x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x272x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x272x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![2, 17], ![false, false]⟩

def cc1_transform_0 (i : grid1.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S48x8x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S48x8x640 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S48x8x640 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S48x8x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x144x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := .none

abbrev stage2_0 : Fin 1 → Memref sig .tc .vmem S2x144x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S48x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== ReferenceIdeal.lean ====
abbrev S16x3x512x512 : Shape := ⟨4, ![16, 3, 512, 512]⟩
abbrev S184720 : Shape := ⟨1, ![184720]⟩
abbrev S1x255 : Shape := ⟨2, ![1, 255]⟩
abbrev S1 : Shape := ⟨1, ![1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S184720x1 : Shape := ⟨2, ![184720, 1]⟩
abbrev S184720x2 : Shape := ⟨2, ![184720, 2]⟩
abbrev S16x3x184720 : Shape := ⟨3, ![16, 3, 184720]⟩
abbrev S184720x16x3 : Shape := ⟨3, ![184720, 16, 3]⟩
abbrev S254x16x3 : Shape := ⟨3, ![254, 16, 3]⟩
abbrev S16x3x254 : Shape := ⟨3, ![16, 3, 254]⟩
abbrev S16x3x1 : Shape := ⟨3, ![16, 3, 1]⟩
abbrev S16x3x255 : Shape := ⟨3, ![16, 3, 255]⟩
abbrev S255x1 : Shape := ⟨2, ![255, 1]⟩
abbrev S1x1x1 : Shape := ⟨3, ![1, 1, 1]⟩

abbrev nBuf : Space → Nat
  | .hbm => 171
  | .vmem => 0
  | .smem => 0
  | _ => 0

abbrev hbmTy0_0 (i : Nat) : BufTy := match i % 128 with
  | 0 => ⟨S16x3x512x512, .f32⟩
  | 1 => ⟨S16x3x512x512, .f32⟩
  | 2 => ⟨S184720, .i32⟩
  | 3 => ⟨S184720, .i32⟩
  | 4 => ⟨S184720, .i32⟩
  | 5 => ⟨S1x255, .f32⟩
  | 6 => ⟨S1, .f32⟩
  | 7 => ⟨S512, .i32⟩
  | 8 => ⟨S512x1, .i32⟩
  | 9 => ⟨S1x512, .i32⟩
  | 10 => ⟨S512x512, .i32⟩
  | 11 => ⟨S512x512, .i32⟩
  | 12 => ⟨S512x512, .i32⟩
  | 13 => ⟨S_, .i32⟩
  | 14 => ⟨S512x512, .i32⟩
  | 15 => ⟨S512x512, .i32⟩
  | 16 => ⟨S512x512, .f32⟩
  | 17 => ⟨S_, .f32⟩
  | 18 => ⟨S_, .f32⟩
  | 19 => ⟨S_, .f32⟩
  | 20 => ⟨S_, .f32⟩
  | 21 => ⟨S512x512, .f32⟩
  | 22 => ⟨S512x512, .f32⟩
  | 23 => ⟨S512x512, .f32⟩
  | 24 => ⟨S512x512, .f32⟩
  | 25 => ⟨S16x3x512x512, .f32⟩
  | 26 => ⟨S16x3x512x512, .f32⟩
  | 27 => ⟨S16x3x512x512, .f32⟩
  | 28 => ⟨S16x3x512x512, .f32⟩
  | 29 => ⟨S16x3x512x512, .f32⟩
  | 30 => ⟨S16x3x512x512, .f32⟩
  | 31 => ⟨S16x3x512x512, .f32⟩
  | 32 => ⟨S16x3x512x512, .f32⟩
  | 33 => ⟨S16x3x512x512, .f32⟩
  | 34 => ⟨S16x3x512x512, .f32⟩
  | 35 => ⟨S16x3x512x512, .f32⟩
  | 36 => ⟨S_, .i32⟩
  | 37 => ⟨S184720, .i32⟩
  | 38 => ⟨S184720, .i1⟩
  | 39 => ⟨S_, .i32⟩
  | 40 => ⟨S184720, .i32⟩
  | 41 => ⟨S184720, .i32⟩
  | 42 => ⟨S184720, .i32⟩
  | 43 => ⟨S_, .i32⟩
  | 44 => ⟨S184720, .i32⟩
  | 45 => ⟨S184720, .i1⟩
  | 46 => ⟨S_, .i32⟩
  | 47 => ⟨S184720, .i32⟩
  | 48 => ⟨S184720, .i32⟩
  | 49 => ⟨S184720, .i32⟩
  | 50 => ⟨S184720x1, .i32⟩
  | 51 => ⟨S184720x1, .i32⟩
  | 52 => ⟨S184720x2, .i32⟩
  | 53 => ⟨S16x3x184720, .f32⟩
  | 54 => ⟨S184720x16x3, .f32⟩
  | 55 => ⟨S_, .i32⟩
  | 56 => ⟨S184720, .i32⟩
  | 57 => ⟨S184720, .i1⟩
  | 58 => ⟨S_, .i32⟩
  | 59 => ⟨S184720, .i32⟩
  | 60 => ⟨S184720, .i32⟩
  | 61 => ⟨S184720, .i32⟩
  | 62 => ⟨S_, .i32⟩
  | 63 => ⟨S184720, .i32⟩
  | 64 => ⟨S184720, .i1⟩
  | 65 => ⟨S_, .i32⟩
  | 66 => ⟨S184720, .i32⟩
  | 67 => ⟨S184720, .i32⟩
  | 68 => ⟨S184720, .i32⟩
  | 69 => ⟨S184720x1, .i32⟩
  | 70 => ⟨S184720x1, .i32⟩
  | 71 => ⟨S184720x2, .i32⟩
  | 72 => ⟨S16x3x184720, .f32⟩
  | 73 => ⟨S184720x16x3, .f32⟩
  | 74 => ⟨S16x3x512x512, .f32⟩
  | 75 => ⟨S16x3x512x512, .f32⟩
  | 76 => ⟨S16x3x512x512, .f32⟩
  | 77 => ⟨S16x3x512x512, .f32⟩
  | 78 => ⟨S16x3x512x512, .f32⟩
  | 79 => ⟨S16x3x512x512, .f32⟩
  | 80 => ⟨S16x3x512x512, .f32⟩
  | 81 => ⟨S16x3x512x512, .f32⟩
  | 82 => ⟨S16x3x512x512, .f32⟩
  | 83 => ⟨S16x3x512x512, .f32⟩
  | 84 => ⟨S16x3x512x512, .f32⟩
  | 85 => ⟨S_, .i32⟩
  | 86 => ⟨S184720, .i32⟩
  | 87 => ⟨S184720, .i1⟩
  | 88 => ⟨S_, .i32⟩
  | 89 => ⟨S184720, .i32⟩
  | 90 => ⟨S184720, .i32⟩
  | 91 => ⟨S184720, .i32⟩
  | 92 => ⟨S_, .i32⟩
  | 93 => ⟨S184720, .i32⟩
  | 94 => ⟨S184720, .i1⟩
  | 95 => ⟨S_, .i32⟩
  | 96 => ⟨S184720, .i32⟩
  | 97 => ⟨S184720, .i32⟩
  | 98 => ⟨S184720, .i32⟩
  | 99 => ⟨S184720x1, .i32⟩
  | 100 => ⟨S184720x1, .i32⟩
  | 101 => ⟨S184720x2, .i32⟩
  | 102 => ⟨S16x3x184720, .f32⟩
  | 103 => ⟨S184720x16x3, .f32⟩
  | 104 => ⟨S_, .i32⟩
  | 105 => ⟨S184720, .i32⟩
  | 106 => ⟨S184720, .i1⟩
  | 107 => ⟨S_, .i32⟩
  | 108 => ⟨S184720, .i32⟩
  | 109 => ⟨S184720, .i32⟩
  | 110 => ⟨S184720, .i32⟩
  | 111 => ⟨S_, .i32⟩
  | 112 => ⟨S184720, .i32⟩
  | 113 => ⟨S184720, .i1⟩
  | 114 => ⟨S_, .i32⟩
  | 115 => ⟨S184720, .i32⟩
  | 116 => ⟨S184720, .i32⟩
  | 117 => ⟨S184720, .i32⟩
  | 118 => ⟨S184720x1, .i32⟩
  | 119 => ⟨S184720x1, .i32⟩
  | 120 => ⟨S184720x2, .i32⟩
  | 121 => ⟨S16x3x184720, .f32⟩
  | 122 => ⟨S184720x16x3, .f32⟩
  | 123 => ⟨S184720x16x3, .f32⟩
  | 124 => ⟨S184720x16x3, .f32⟩
  | 125 => ⟨S184720x16x3, .f32⟩
  | 126 => ⟨S_, .f32⟩
  | 127 => ⟨S254x16x3, .f32⟩
  | _ => ⟨S16x3x512x512, .f32⟩

abbrev hbmTy0_1 (i : Nat) : BufTy := match i % 128 with
  | 0 => ⟨S184720x1, .i32⟩
  | 1 => ⟨S254x16x3, .f32⟩
  | 2 => ⟨S184720x16x3, .f32⟩
  | 3 => ⟨S184720x16x3, .f32⟩
  | 4 => ⟨S184720x16x3, .f32⟩
  | 5 => ⟨S_, .f32⟩
  | 6 => ⟨S254x16x3, .f32⟩
  | 7 => ⟨S184720x1, .i32⟩
  | 8 => ⟨S254x16x3, .f32⟩
  | 9 => ⟨S184720x16x3, .f32⟩
  | 10 => ⟨S184720x16x3, .f32⟩
  | 11 => ⟨S184720x16x3, .f32⟩
  | 12 => ⟨S184720x16x3, .f32⟩
  | 13 => ⟨S184720x16x3, .f32⟩
  | 14 => ⟨S_, .f32⟩
  | 15 => ⟨S254x16x3, .f32⟩
  | 16 => ⟨S184720x1, .i32⟩
  | 17 => ⟨S254x16x3, .f32⟩
  | 18 => ⟨S184720x16x3, .f32⟩
  | 19 => ⟨S184720x16x3, .f32⟩
  | 20 => ⟨S184720x16x3, .f32⟩
  | 21 => ⟨S184720x16x3, .f32⟩
  | 22 => ⟨S184720x16x3, .f32⟩
  | 23 => ⟨S_, .f32⟩
  | 24 => ⟨S254x16x3, .f32⟩
  | 25 => ⟨S184720x1, .i32⟩
  | 26 => ⟨S254x16x3, .f32⟩
  | 27 => ⟨S254x16x3, .f32⟩
  | 28 => ⟨S254x16x3, .f32⟩
  | 29 => ⟨S254x16x3, .f32⟩
  | 30 => ⟨S254x16x3, .f32⟩
  | 31 => ⟨S254x16x3, .f32⟩
  | 32 => ⟨S254x16x3, .f32⟩
  | 33 => ⟨S254x16x3, .f32⟩
  | 34 => ⟨S16x3x254, .f32⟩
  | 35 => ⟨S_, .f32⟩
  | 36 => ⟨S16x3x1, .f32⟩
  | 37 => ⟨S16x3x255, .f32⟩
  | 38 => ⟨S255x1, .f32⟩
  | 39 => ⟨S16x3x1, .f32⟩
  | 40 => ⟨S1x1x1, .f32⟩
  | 41 => ⟨S16x3x1, .f32⟩
  | 42 => ⟨S16x3x1, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_3 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_5 : Ref sig .tc := ⟨.hbm, 55, rfl⟩
abbrev main_v41 : Ref sig .tc := ⟨.hbm, 56, rfl⟩
abbrev main_v42 : Ref sig .tc := ⟨.hbm, 57, rfl⟩
abbrev main_c_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_7 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_9 : Ref sig .tc := ⟨.hbm, 85, rfl⟩
abbrev main_v67 : Ref sig .tc := ⟨.hbm, 86, rfl⟩
abbrev main_v68 : Ref sig .tc := ⟨.hbm, 87, rfl⟩
abbrev main_c_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_11 : Ref sig .tc := ⟨.hbm, 92, rfl⟩
abbrev main_v72 : Ref sig .tc := ⟨.hbm, 93, rfl⟩
abbrev main_v73 : Ref sig .tc := ⟨.hbm, 94, rfl⟩
abbrev main_c_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_c_13 : Ref sig .tc := ⟨.hbm, 104, rfl⟩
abbrev main_v82 : Ref sig .tc := ⟨.hbm, 105, rfl⟩
abbrev main_v83 : Ref sig .tc := ⟨.hbm, 106, rfl⟩
abbrev main_c_14 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_15 : Ref sig .tc := ⟨.hbm, 111, rfl⟩
abbrev main_v87 : Ref sig .tc := ⟨.hbm, 112, rfl⟩
abbrev main_v88 : Ref sig .tc := ⟨.hbm, 113, rfl⟩
abbrev main_c_16 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_17 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_18 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_19 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_20 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_cst_21 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩

abbrev nD : Nat := 1
abbrev τ : Topo := Topo.v7x

variable {F : FTy → Type} [FloatOps F]
-- ==== Proof.Ring.lean ====
module

public import Idealize.ShloMosaic.Lib.ValueIdx
public import Idealize.ShloMosaic.Lib.IdealHost
public import Mathlib.Tactic.NormNum
public import Mathlib.Tactic.Linarith
public import Mathlib.Tactic.Ring

@[expose] public section

noncomputable section

namespace Cert.Proof

open Idealize.ShloMosaic
open scoped BigOperators

/-- The pixel's distance from the centre `(256, 256)`, rounded to the nearest integer. -/
def rad (h w : ℝ) : ℝ := ((Ideal.roundHalfEven (Real.sqrt ((h - 256) * (h - 256) + (w - 256) * (w - 256))) : ℤ) : ℝ)

/-- The pixel's squared distance from the centre. -/
def sqd (h w : ℝ) : ℝ := (h - 256) * (h - 256) + (w - 256) * (w - 256)

/-- The larger and the smaller of the two coordinate distances from the centre. -/
def far (h w : ℝ) : ℝ := max |h - 256| |w - 256|
@[inherit_doc far] def near (h w : ℝ) : ℝ := min |h - 256| |w - 256|

/-- Whether the circle of the pixel's rounded radius passes through the pixel. -/
def OnRing (h w : ℝ) : Prop :=
  1 ≤ rad h w ∧ rad h w ≤ 254 ∧ sqd h w - far h w < rad h w * rad h w ∧ rad h w * rad h w ≤ sqd h w + far h w

open Classical in
/-- How often the circles pass through the pixel. -/
def times (h w : ℝ) : ℝ := if OnRing h w then (if near h w = 0 ∨ near h w = far h w then 2 else 1) else 0

/-- The pixel's segment: the rounded radius less one, as a word. -/
def seg (h w : ℝ) : BitVec 32 := Ideal.fptosi 32 (((rad h w - 1 : ℝ)) : EReal)

/-- The rounded radius does not change under the point reflection about the centre. -/
theorem rad_flip (h w : ℝ) : rad (512 - h) (512 - w) = rad h w := by
  unfold rad
  rw [show (512 - h - 256) * (512 - h - 256) + (512 - w - 256) * (512 - w - 256) = (h - 256) * (h - 256) + (w - 256) * (w - 256) by ring]

/-- The multiplicity does not change under the point reflection about the centre. -/
theorem times_flip (h w : ℝ) : times (512 - h) (512 - w) = times h w := by
  have e1 : |512 - h - 256| = |h - 256| := by rw [← abs_neg]; congr 1; ring
  have e2 : |512 - w - 256| = |w - 256| := by rw [← abs_neg]; congr 1; ring
  have e3 : sqd (512 - h) (512 - w) = sqd h w := by unfold sqd; ring
  unfold times OnRing far near
  rw [rad_flip, e1, e2, e3]

/-- The segment does not change under the point reflection about the centre. -/
theorem seg_flip (h w : ℝ) : seg (512 - h) (512 - w) = seg h w := by unfold seg; rw [rad_flip]

/-- No circle reaches the first row. -/
theorem times_row (w : ℝ) (h0 : 0 ≤ w) (h1 : w ≤ 512) : times 0 w = 0 := by
  unfold times; rw [if_neg]
  rintro ⟨a, b, c, -⟩
  have h2 : |(0:ℝ) - 256| = 256 := by norm_num
  have hf : far 0 w = 256 := by
    unfold far; rw [h2]; apply max_eq_left; rw [abs_le]; constructor <;> linarith
  rw [hf] at c
  unfold sqd at c
  nlinarith [mul_self_nonneg (w - 256)]

/-- No circle reaches the first column. -/
theorem times_col (h : ℝ) (h0 : 0 ≤ h) (h1 : h ≤ 512) : times h 0 = 0 := by
  unfold times; rw [if_neg]
  rintro ⟨a, b, c, -⟩
  have h2 : |(0:ℝ) - 256| = 256 := by norm_num
  have hf : far h 0 = 256 := by
    unfold far; rw [h2]; apply max_eq_right; rw [abs_le]; constructor <;> linarith
  rw [hf] at c
  unfold sqd at c
  nlinarith [mul_self_nonneg (h - 256)]

/-- A sum over `0 … 511` of a function that vanishes at `0` and is symmetric about `256`: twice the first half and the
    middle. -/
theorem sum_half (g : ℕ → ℝ) (h0 : g 0 = 0) (hs : ∀ h, 1 ≤ h → h ≤ 511 → g (512 - h) = g h) :
    ∑ h ∈ Finset.range 512, g h = ∑ u ∈ Finset.range 272, (if u < 256 then 2 * g u else if u = 256 then g u else 0) := by
  have a : ∑ h ∈ Finset.range 512, g h = ∑ h ∈ Finset.range 256, g h + (g 256 + ∑ h ∈ Finset.range 255, g (257 + h)) := by
    rw [Finset.sum_range_add g 256 256, Finset.sum_range_succ' (fun h => g (256 + h)) 255]
    rw [show 256 + 0 = 256 from rfl, add_comm _ (g 256)]
    refine congrArg₂ (· + ·) rfl (congrArg₂ (· + ·) rfl (Finset.sum_congr rfl fun h _ => ?_))
    rw [show 256 + (h + 1) = 257 + h by omega]
  have b : ∑ h ∈ Finset.range 255, g (257 + h) = ∑ h ∈ Finset.range 256, g h := by
    rw [Finset.sum_range_succ' g 255, h0, add_zero, ← Finset.sum_range_reflect]
    refine Finset.sum_congr rfl fun h hh => ?_
    rw [Finset.mem_range] at hh
    rw [← hs (h + 1) (by omega) (by omega)]
    congr 1; omega
  have c : ∑ u ∈ Finset.range 272, (if u < 256 then 2 * g u else if u = 256 then g u else 0)
      = ∑ u ∈ Finset.range 256, 2 * g u + (g 256 + 0) := by
    rw [show 272 = 256 + 16 from rfl, Finset.sum_range_add]
    refine congrArg₂ (· + ·) ?_ ?_
    · exact Finset.sum_congr rfl fun u hu => if_pos (Finset.mem_range.1 hu)
    · rw [Finset.sum_eq_single 0]
      · simp
      · exact fun u _ hu => by rw [if_neg (by omega), if_neg (by omega)]
      · simp
  rw [a, b, c, ← Finset.mul_sum]; ring

/-- The folded columns hold each column of `0 … 511` once. -/
theorem sum_cols (g : ℕ → ℝ) :
    ∑ c ∈ Finset.range 640, (if c ≤ 256 ∨ (320 < c ∧ c < 576) then g (if c < 320 then c else 832 - c) else 0)
      = ∑ w ∈ Finset.range 512, g w := by
  rw [show 640 = 257 + (64 + (255 + 64)) from rfl, Finset.sum_range_add, Finset.sum_range_add, Finset.sum_range_add]
  rw [show 512 = 257 + 255 from rfl, Finset.sum_range_add]
  have e2 : ∑ x ∈ Finset.range 64, (if 257 + x ≤ 256 ∨ (320 < 257 + x ∧ 257 + x < 576) then g (if 257 + x < 320 then 257 + x else 832 - (257 + x)) else 0) = 0 :=
    Finset.sum_eq_zero fun x hx => by rw [Finset.mem_range] at hx; rw [if_neg (by omega)]
  have e4 : ∑ x ∈ Finset.range 64, (if 257 + (64 + (255 + x)) ≤ 256 ∨ (320 < 257 + (64 + (255 + x)) ∧ 257 + (64 + (255 + x)) < 576) then g (if 257 + (64 + (255 + x)) < 320 then 257 + (64 + (255 + x)) else 832 - (257 + (64 + (255 + x)))) else 0) = 0 :=
    Finset.sum_eq_zero fun x hx => by rw [Finset.mem_range] at hx; rw [if_neg (by omega)]
  rw [e2, e4, add_zero, zero_add]
  refine congrArg₂ (· + ·) ?_ ?_
  · exact Finset.sum_congr rfl fun x hx => by rw [Finset.mem_range] at hx; rw [if_pos (by omega), if_pos (by omega)]
  · rw [← Finset.sum_range_reflect (fun x => g (257 + x))]
    refine Finset.sum_congr rfl fun x hx => ?_
    rw [Finset.mem_range] at hx; rw [if_pos (by omega), if_neg (by omega)]
    exact congrArg g (by omega)

open Classical in
/-- The weight of a folded position: `0` outside the half plane, else the multiplicity, twice off the middle row. -/
def foldTimes (u c : ℕ) : ℝ :=
  if OnRing u (if c < 320 then c else 832 - c : ℕ) ∧ u ≤ 256 ∧ (c ≤ 256 ∨ (320 < c ∧ c < 576)) then
    (if near u (if c < 320 then c else 832 - c : ℕ) = 0 ∨ near u (if c < 320 then c else 832 - c : ℕ) = far u (if c < 320 then c else 832 - c : ℕ)
      then 2 else 1) * (if u < 256 then 2 else 1)
  else 0

/-- The folded weight, from the multiplicity. -/
theorem foldTimes_eq (u c : ℕ) : foldTimes u c =
    if u ≤ 256 ∧ (c ≤ 256 ∨ (320 < c ∧ c < 576)) then times u (if c < 320 then c else 832 - c : ℕ) * (if u < 256 then 2 else 1) else 0 := by
  unfold foldTimes times
  by_cases h : u ≤ 256 ∧ (c ≤ 256 ∨ (320 < c ∧ c < 576))
  · by_cases h' : OnRing u (if c < 320 then c else 832 - c : ℕ)
    · rw [if_pos ⟨h', h⟩, if_pos h, if_pos h']
    · rw [if_neg fun x => h' x.1, if_pos h, if_neg h', zero_mul]
  · rw [if_neg fun x => h x.2, if_neg h]

/-- The folded sum is the sum over the whole plane, for a function symmetric about the centre. -/
theorem fold_sum (q : ℕ → ℕ → ℝ)
    (hs : ∀ h w, 1 ≤ h → h ≤ 511 → 1 ≤ w → w ≤ 511 → q (512 - h) (512 - w) = q h w) :
    ∑ u ∈ Finset.range 272, ∑ c ∈ Finset.range 640, foldTimes u c * q u (if c < 320 then c else 832 - c)
      = ∑ h ∈ Finset.range 512, ∑ w ∈ Finset.range 512, times h w * q h w := by
  rw [sum_half]
  · refine Finset.sum_congr rfl fun u _ => ?_
    rw [← sum_cols]
    by_cases h1 : u < 256
    · rw [if_pos h1, Finset.mul_sum]
      refine Finset.sum_congr rfl fun c _ => ?_
      rw [foldTimes_eq]
      by_cases h : c ≤ 256 ∨ (320 < c ∧ c < 576)
      · rw [if_pos ⟨by omega, h⟩, if_pos h, if_pos h1]; ring
      · rw [if_neg (fun x => h x.2), if_neg h]; ring
    · rw [if_neg h1]
      by_cases h2 : u = 256
      · rw [if_pos h2]
        refine Finset.sum_congr rfl fun c _ => ?_
        rw [foldTimes_eq]
        by_cases h : c ≤ 256 ∨ (320 < c ∧ c < 576)
        · rw [if_pos ⟨by omega, h⟩, if_pos h, if_neg h1]; ring
        · rw [if_neg (fun x => h x.2), if_neg h]; ring
      · rw [if_neg h2]
        refine Finset.sum_eq_zero fun c _ => ?_
        rw [foldTimes_eq, if_neg (fun x => by omega), zero_mul]
  · refine Finset.sum_eq_zero fun w hw => ?_
    rw [Finset.mem_range] at hw
    have : (w : ℝ) ≤ 512 := by exact_mod_cast hw.le
    rw [show ((0 : ℕ) : ℝ) = 0 from Nat.cast_zero, times_row _ (Nat.cast_nonneg w) this, zero_mul]
  · intro h h1 h2
    have z : ∀ h : ℕ, h ≤ 512 → ∑ w ∈ Finset.range 512, times h w * q h w = ∑ w ∈ Finset.range 511, times h (w + 1 : ℕ) * q h (w + 1) := by
      intro h hh
      have : (h : ℝ) ≤ 512 := by exact_mod_cast hh
      rw [show 512 = 511 + 1 from rfl, Finset.sum_range_succ', show ((0 : ℕ) : ℝ) = 0 from Nat.cast_zero, times_col _ (Nat.cast_nonneg h) this, zero_mul, add_zero]
    rw [z _ (by omega), z _ (by omega), ← Finset.sum_range_reflect]
    refine Finset.sum_congr rfl fun w hw => ?_
    rw [Finset.mem_range] at hw
    rw [show 511 - 1 - w + 1 = 512 - (w + 1) by omega, hs h (w + 1) h1 h2 (by omega) (by omega)]
    rw [Nat.cast_sub (by omega), Nat.cast_sub (by omega)]
    rw [show ((512 : ℕ) : ℝ) = 512 by norm_num, times_flip]

end Cert.Proof

end
-- ==== Proof.Spectrum.lean ====
module

public import proofs.«01_k».proof.Proof.Ring

@[expose] public section

noncomputable section

namespace Cert.Proof

open Idealize.ShloMosaic
open scoped BigOperators

/-- The table's angle: `2 π n / 512`, the product `n` taken modulo `512`. -/
def ang (n : ℕ) : ℝ := ((n % 512 : ℕ) : ℝ) * (Real.pi / 256)

/-- The DFT's cosine and sine at `(i, k)`. -/
def cosT (i k : ℕ) : ℝ := Real.cos (ang (i * k))
@[inherit_doc cosT] def sinT (i k : ℕ) : ℝ := Real.sin (ang (i * k))

/-- The angle without the reduction. -/
def phase (h k w l : ℕ) : ℝ := ((h * k + w * l : ℕ) : ℝ) * (Real.pi / 256)

/-- The unreduced angle is the table's up to whole turns. -/
theorem turn (n : ℕ) : ((n : ℕ) : ℝ) * (Real.pi / 256) = ang n + ((n / 512 : ℕ) : ℝ) * (2 * Real.pi) := by
  unfold ang
  have : ((n : ℕ) : ℝ) = 512 * ((n / 512 : ℕ) : ℝ) + ((n % 512 : ℕ) : ℝ) := by
    exact_mod_cast (Nat.div_add_mod n 512).symm
  rw [this]; ring

/-- The cosine of the table's angle is that of the unreduced one. -/
theorem cos_turn (n : ℕ) : Real.cos (((n : ℕ) : ℝ) * (Real.pi / 256)) = Real.cos (ang n) := by
  rw [turn, Real.cos_add_nat_mul_two_pi]

/-- The sine of the table's angle is that of the unreduced one. -/
theorem sin_turn (n : ℕ) : Real.sin (((n : ℕ) : ℝ) * (Real.pi / 256)) = Real.sin (ang n) := by
  rw [turn, Real.sin_add_nat_mul_two_pi]

/-- The tables are symmetric. -/
theorem cosT_comm (i k : ℕ) : cosT i k = cosT k i := by unfold cosT; rw [Nat.mul_comm]
@[inherit_doc cosT_comm] theorem sinT_comm (i k : ℕ) : sinT i k = sinT k i := by unfold sinT; rw [Nat.mul_comm]

/-- The addition formula over the tables. -/
theorem cos_phase (h k w l : ℕ) : Real.cos (phase h k w l) = cosT h k * cosT l w - sinT h k * sinT l w := by
  unfold phase cosT sinT
  rw [Nat.mul_comm l w, ← cos_turn, ← cos_turn, ← sin_turn, ← sin_turn, ← Real.cos_add]
  congr 1; push_cast; ring

@[inherit_doc cos_phase]
theorem sin_phase (h k w l : ℕ) : Real.sin (phase h k w l) = sinT h k * cosT l w + cosT h k * sinT l w := by
  unfold phase cosT sinT
  rw [Nat.mul_comm l w, ← cos_turn, ← cos_turn, ← sin_turn, ← sin_turn, ← Real.sin_add]
  congr 1; push_cast; ring

/-- The real and the imaginary part of the two-dimensional DFT of an image. -/
def reF (x : Fin 512 → Fin 512 → ℝ) (h w : ℕ) : ℝ := ∑ k : Fin 512, ∑ l : Fin 512, x k l * Real.cos (phase h k w l)
@[inherit_doc reF]
def imF (x : Fin 512 → Fin 512 → ℝ) (h w : ℕ) : ℝ := -∑ k : Fin 512, ∑ l : Fin 512, x k l * Real.sin (phase h k w l)

/-- Rows first: a sum of sums with the row factor outside. -/
theorem rows_first (x : Fin 512 → Fin 512 → ℝ) (a : Fin 512 → ℝ) (b : Fin 512 → ℝ) :
    ∑ k, a k * ∑ l, x k l * b l = ∑ k, ∑ l, x k l * (a k * b l) :=
  Finset.sum_congr rfl fun k _ => by rw [Finset.mul_sum]; exact Finset.sum_congr rfl fun l _ => by ring

/-- Columns first: the same double sum in the other order. -/
theorem cols_first (x : Fin 512 → Fin 512 → ℝ) (a : Fin 512 → ℝ) (b : Fin 512 → ℝ) :
    ∑ l, (∑ k, x k l * a k) * b l = ∑ k, ∑ l, x k l * (a k * b l) := by
  rw [Finset.sum_comm]
  exact Finset.sum_congr rfl fun k _ => by rw [Finset.sum_mul]; exact Finset.sum_congr rfl fun l _ => by ring

/-- The real part as the double sum of products of the tables. -/
theorem reF_eq (x : Fin 512 → Fin 512 → ℝ) (h w : ℕ) : reF x h w =
    ∑ k : Fin 512, ∑ l : Fin 512, x k l * (cosT h k * cosT l w) - ∑ k : Fin 512, ∑ l : Fin 512, x k l * (sinT h k * sinT l w) := by
  unfold reF
  rw [← Finset.sum_sub_distrib]
  refine Finset.sum_congr rfl fun k _ => ?_
  rw [← Finset.sum_sub_distrib]
  exact Finset.sum_congr rfl fun l _ => by rw [cos_phase]; ring

/-- The imaginary part as the double sum of products of the tables. -/
theorem imF_eq (x : Fin 512 → Fin 512 → ℝ) (h w : ℕ) : imF x h w =
    -(∑ k : Fin 512, ∑ l : Fin 512, x k l * (cosT h k * sinT l w) + ∑ k : Fin 512, ∑ l : Fin 512, x k l * (sinT h k * cosT l w)) := by
  unfold imF
  rw [← Finset.sum_add_distrib]
  congr 1
  refine Finset.sum_congr rfl fun k _ => ?_
  rw [← Finset.sum_add_distrib]
  exact Finset.sum_congr rfl fun l _ => by rw [sin_phase]; ring

/-- The DFT at the reflected frequency is the conjugate's: the angle is turned round. -/
theorem phase_flip (h w k l : ℕ) (hh : h ≤ 512) (hw : w ≤ 512) :
    phase (512 - h) k (512 - w) l = ((k + l : ℕ) : ℝ) * (2 * Real.pi) - phase h k w l := by
  unfold phase; push_cast [Nat.cast_sub hh, Nat.cast_sub hw]; ring

/-- A real image's DFT is even in its real part. -/
theorem reF_flip (x : Fin 512 → Fin 512 → ℝ) (h w : ℕ) (hh : h ≤ 512) (hw : w ≤ 512) : reF x (512 - h) (512 - w) = reF x h w := by
  unfold reF
  refine Finset.sum_congr rfl fun k _ => Finset.sum_congr rfl fun l _ => ?_
  rw [phase_flip h w k l hh hw, Real.cos_nat_mul_two_pi_sub]

/-- A real image's DFT is odd in its imaginary part. -/
theorem imF_flip (x : Fin 512 → Fin 512 → ℝ) (h w : ℕ) (hh : h ≤ 512) (hw : w ≤ 512) : imF x (512 - h) (512 - w) = -imF x h w := by
  unfold imF
  refine congrArg Neg.neg ?_
  rw [← Finset.sum_neg_distrib]
  refine Finset.sum_congr rfl fun k _ => ?_
  rw [← Finset.sum_neg_distrib]
  refine Finset.sum_congr rfl fun l _ => ?_
  rw [phase_flip h w k l hh hw, Real.sin_nat_mul_two_pi_sub]; ring

/-- Cosine and sine at a reflected column. -/
theorem cosT_refl (l v : ℕ) (hv : v ≤ 512) : cosT l (512 - v) = cosT l v := by
  unfold cosT
  rw [← cos_turn, ← cos_turn, ← Real.cos_nat_mul_two_pi_sub _ l]
  congr 1; push_cast [Nat.cast_sub hv]; ring

@[inherit_doc cosT_refl]
theorem sinT_refl (l v : ℕ) (hv : v ≤ 512) : sinT l (512 - v) = -sinT l v := by
  unfold sinT
  rw [← sin_turn, ← sin_turn, ← Real.sin_nat_mul_two_pi_sub _ l]
  congr 1; push_cast [Nat.cast_sub hv]; ring

/-- The kernel's four products of a folded image. -/
def pCC (x : Fin 512 → Fin 512 → ℝ) (u v : ℕ) : ℝ := ∑ k : Fin 512, cosT u k * ∑ l : Fin 512, x k l * cosT l v
@[inherit_doc pCC]
def pSS (x : Fin 512 → Fin 512 → ℝ) (u v : ℕ) : ℝ := ∑ k : Fin 512, -sinT u k * ∑ l : Fin 512, x k l * -sinT l v
@[inherit_doc pCC]
def pCS (x : Fin 512 → Fin 512 → ℝ) (u v : ℕ) : ℝ := ∑ k : Fin 512, cosT u k * ∑ l : Fin 512, x k l * -sinT l v
@[inherit_doc pCC]
def pSC (x : Fin 512 → Fin 512 → ℝ) (u v : ℕ) : ℝ := ∑ k : Fin 512, -sinT u k * ∑ l : Fin 512, x k l * cosT l v

/-- The left half of the fold is the DFT. -/
theorem left_re (x : Fin 512 → Fin 512 → ℝ) (u v : ℕ) : pCC x u v - pSS x u v = reF x u v := by
  unfold pCC pSS
  rw [rows_first x (fun k => cosT u k) (fun l => cosT l v), rows_first x (fun k => -sinT u k) (fun l => -sinT l v), reF_eq]
  simp only [neg_mul_neg]

@[inherit_doc left_re]
theorem left_im (x : Fin 512 → Fin 512 → ℝ) (u v : ℕ) : pCS x u v + pSC x u v = imF x u v := by
  unfold pCS pSC
  rw [rows_first x (fun k => cosT u k) (fun l => -sinT l v), rows_first x (fun k => -sinT u k) (fun l => cosT l v), imF_eq]
  simp only [neg_mul, mul_neg, Finset.sum_neg_distrib]; ring

/-- The right half of the fold is the conjugate of the DFT at the reflected column. -/
theorem right_re (x : Fin 512 → Fin 512 → ℝ) (u v : ℕ) (hv : v ≤ 512) : pCC x u v + pSS x u v = reF x u (512 - v) := by
  unfold pCC pSS
  rw [rows_first x (fun k => cosT u k) (fun l => cosT l v), rows_first x (fun k => -sinT u k) (fun l => -sinT l v), reF_eq]
  simp only [neg_mul, cosT_refl _ v hv, sinT_refl _ v hv, mul_neg, neg_neg, Finset.sum_neg_distrib, sub_neg_eq_add]

@[inherit_doc right_re]
theorem right_im (x : Fin 512 → Fin 512 → ℝ) (u v : ℕ) (hv : v ≤ 512) : pCS x u v - pSC x u v = -imF x u (512 - v) := by
  unfold pCS pSC
  rw [rows_first x (fun k => cosT u k) (fun l => -sinT l v), rows_first x (fun k => -sinT u k) (fun l => cosT l v), imF_eq]
  simp only [neg_mul, mul_neg, cosT_refl _ v hv, sinT_refl _ v hv, Finset.sum_neg_distrib]; ring

/-- The folded transform at row `u`, folded column `c` (before the weight): real part. -/
def foldRe (x : Fin 512 → Fin 512 → ℝ) (u c : ℕ) : ℝ :=
  if c < 272 then pCC x u c - pSS x u c else if c < 320 then 0 else if c < 592 then pCC x u (c - 320) + pSS x u (c - 320) else 0
/-- The folded transform at row `u`, folded column `c` (before the weight): imaginary part. -/
def foldIm (x : Fin 512 → Fin 512 → ℝ) (u c : ℕ) : ℝ :=
  if c < 272 then pCS x u c + pSC x u c else if c < 320 then 0 else if c < 592 then pCS x u (c - 320) - pSC x u (c - 320) else 0

/-- The correlation of two images' spectra at a frequency. -/
def corr (x y : Fin 512 → Fin 512 → ℝ) (h w : ℕ) : ℝ := reF x h w * reF y h w + imF x h w * imF y h w

/-- The correlation is even. -/
theorem corr_flip (x y : Fin 512 → Fin 512 → ℝ) (h w : ℕ) (hh : h ≤ 512) (hw : w ≤ 512) : corr x y (512 - h) (512 - w) = corr x y h w := by
  unfold corr; rw [reF_flip x h w hh hw, reF_flip y h w hh hw, imF_flip x h w hh hw, imF_flip y h w hh hw]; ring

/-- The folded correlation at a position of the half plane. -/
theorem fold_corr (x y : Fin 512 → Fin 512 → ℝ) (u c : ℕ) (hc : c ≤ 256 ∨ (320 < c ∧ c < 576)) :
    foldRe x u c * foldRe y u c + foldIm x u c * foldIm y u c = corr x y u (if c < 320 then c else 832 - c) := by
  unfold foldRe foldIm corr
  rcases hc with h | ⟨h, h'⟩
  · rw [if_pos (by omega), if_pos (by omega), if_pos (by omega), if_pos (by omega), if_pos (by omega), left_re, left_re, left_im, left_im]
  · have a1 : ¬ c < 272 := by omega
    have a2 : ¬ c < 320 := by omega
    have a3 : c < 592 := by omega
    simp only [if_neg a1, if_neg a2, if_pos a3]
    rw [right_re x u _ (by omega), right_re y u _ (by omega), right_im x u _ (by omega), right_im y u _ (by omega)]
    rw [show 512 - (c - 320) = 832 - c by omega]; ring

/-- The weighted folded correlation. -/
theorem fold_weighted (x y : Fin 512 → Fin 512 → ℝ) (u c : ℕ) :
    (foldRe x u c * Real.sqrt (foldTimes u c)) * (foldRe y u c * Real.sqrt (foldTimes u c))
      + (foldIm x u c * Real.sqrt (foldTimes u c)) * (foldIm y u c * Real.sqrt (foldTimes u c))
      = foldTimes u c * corr x y u (if c < 320 then c else 832 - c) := by
  have hn : 0 ≤ foldTimes u c := by
    rw [foldTimes_eq]
    have ht : ∀ h w : ℝ, 0 ≤ times h w := fun h w => by unfold times; split_ifs <;> norm_num
    split_ifs <;> first | exact le_rfl | exact mul_nonneg (ht _ _) (by norm_num)
  have e : (foldRe x u c * Real.sqrt (foldTimes u c)) * (foldRe y u c * Real.sqrt (foldTimes u c))
      + (foldIm x u c * Real.sqrt (foldTimes u c)) * (foldIm y u c * Real.sqrt (foldTimes u c))
      = foldTimes u c * (foldRe x u c * foldRe y u c + foldIm x u c * foldIm y u c) := by
    have := Real.mul_self_sqrt hn
    linear_combination (foldRe x u c * foldRe y u c + foldIm x u c * foldIm y u c) * this
  rw [e]
  by_cases h : u ≤ 256 ∧ (c ≤ 256 ∨ (320 < c ∧ c < 576))
  · rw [fold_corr x y u c h.2]
  · rw [foldTimes_eq, if_neg h, zero_mul, zero_mul]

/-- The reference's transform: real part. -/
theorem ref_re (x : Fin 512 → Fin 512 → ℝ) (h w : ℕ) :
    ∑ l : Fin 512, (∑ k : Fin 512, x k l * cosT h k) * cosT l w - ∑ l : Fin 512, (∑ k : Fin 512, x k l * sinT h k) * sinT l w = reF x h w := by
  rw [cols_first x (fun k => cosT h k) (fun l => cosT l w), cols_first x (fun k => sinT h k) (fun l => sinT l w), reF_eq]

/-- The reference's transform: imaginary part. -/
theorem ref_im (x : Fin 512 → Fin 512 → ℝ) (h w : ℕ) :
    -(∑ l : Fin 512, (∑ k : Fin 512, x k l * cosT h k) * sinT l w + ∑ l : Fin 512, (∑ k : Fin 512, x k l * sinT h k) * cosT l w) = imF x h w := by
  rw [cols_first x (fun k => cosT h k) (fun l => sinT l w), cols_first x (fun k => sinT h k) (fun l => cosT l w), imF_eq]

/-- The sum of the correlation over a ring: over the circles' pixels, those of segment `s`. -/
def ringSum (q : ℕ → ℕ → ℝ) (s : BitVec 32) : ℝ :=
  ∑ h ∈ Finset.range 512, ∑ w ∈ Finset.range 512, times h w * (q h w * if seg h w = s then 1 else 0)

/-- The folded sum over a segment is the ring's. -/
theorem fold_ring (x y : Fin 512 → Fin 512 → ℝ) (s : BitVec 32) :
    ∑ u ∈ Finset.range 272, ∑ c ∈ Finset.range 640,
      ((foldRe x u c * Real.sqrt (foldTimes u c)) * (foldRe y u c * Real.sqrt (foldTimes u c))
        + (foldIm x u c * Real.sqrt (foldTimes u c)) * (foldIm y u c * Real.sqrt (foldTimes u c)))
        * (if seg u (if c < 320 then c else 832 - c : ℕ) = s then 1 else 0)
      = ringSum (corr x y) s := by
  unfold ringSum
  rw [← fold_sum (fun h w => corr x y h w * if seg h w = s then 1 else 0)]
  · exact Finset.sum_congr rfl fun u _ => Finset.sum_congr rfl fun c _ => by rw [fold_weighted]; ring
  · intro h w h1 h2 w1 w2
    rw [corr_flip x y h w (by omega) (by omega), Nat.cast_sub (by omega), Nat.cast_sub (by omega),
      show ((512 : ℕ) : ℝ) = 512 by norm_num, seg_flip]

/-- The imaginary part of the cross spectrum is odd, so its ring sums vanish. -/
theorem ring_odd (q : ℕ → ℕ → ℝ) (s : BitVec 32)
    (hq : ∀ h w, 1 ≤ h → h ≤ 511 → 1 ≤ w → w ≤ 511 → q (512 - h) (512 - w) = -q h w) : ringSum q s = 0 := by
  have e : ringSum q s = -ringSum q s := by
    have row : ∀ f : ℕ → ℝ, f 0 = 0 → ∑ h ∈ Finset.range 512, f h = ∑ h ∈ Finset.range 511, f (h + 1) := fun f hf => by
      rw [Finset.sum_range_succ' f 511, hf, add_zero]
    have z : ringSum q s = ∑ h ∈ Finset.range 511, ∑ w ∈ Finset.range 511,
        times (h + 1 : ℕ) (w + 1 : ℕ) * (q (h + 1) (w + 1) * if seg (h + 1 : ℕ) (w + 1 : ℕ) = s then 1 else 0) := by
      unfold ringSum
      rw [row]
      · refine Finset.sum_congr rfl fun h hh => ?_
        rw [row]
        have : ((h + 1 : ℕ) : ℝ) ≤ 512 := by exact_mod_cast (by have := Finset.mem_range.1 hh; omega : h + 1 ≤ 512)
        rw [show ((0 : ℕ) : ℝ) = 0 from Nat.cast_zero, times_col _ (Nat.cast_nonneg _) this, zero_mul]
      · refine Finset.sum_eq_zero fun w hw => ?_
        have : ((w : ℕ) : ℝ) ≤ 512 := by exact_mod_cast (Finset.mem_range.1 hw).le
        rw [show ((0 : ℕ) : ℝ) = 0 from Nat.cast_zero, times_row _ (Nat.cast_nonneg _) this, zero_mul]
    rw [z]
    conv_lhs => rw [← Finset.sum_range_reflect]
    rw [← Finset.sum_neg_distrib]
    refine Finset.sum_congr rfl fun h hh => ?_
    conv_lhs => rw [← Finset.sum_range_reflect]
    rw [← Finset.sum_neg_distrib]
    refine Finset.sum_congr rfl fun w hw => ?_
    rw [Finset.mem_range] at hh hw
    rw [show 511 - 1 - h + 1 = 512 - (h + 1) by omega, show 511 - 1 - w + 1 = 512 - (w + 1) by omega,
      hq _ _ (by omega) (by omega) (by omega) (by omega), Nat.cast_sub (by omega), Nat.cast_sub (by omega),
      show ((512 : ℕ) : ℝ) = 512 by norm_num, times_flip, seg_flip]
    ring
  linarith

/-- The cross spectrum's imaginary part is odd. -/
theorem cross_flip (x y : Fin 512 → Fin 512 → ℝ) (h w : ℕ) (hh : h ≤ 512) (hw : w ≤ 512) :
    imF x (512 - h) (512 - w) * reF y (512 - h) (512 - w) - reF x (512 - h) (512 - w) * imF y (512 - h) (512 - w)
      = -(imF x h w * reF y h w - reF x h w * imF y h w) := by
  rw [reF_flip x h w hh hw, reF_flip y h w hh hw, imF_flip x h w hh hw, imF_flip y h w hh hw]; ring

end Cert.Proof

end
-- ==== Proof.Ext.lean ====
module

public import proofs.«01_k».proof.Proof.Spectrum
public import Mathlib.Data.EReal.Operations
public import Mathlib.Data.EReal.Inv

@[expose] public section

noncomputable section

namespace Cert.Proof

open Idealize.ShloMosaic
open scoped BigOperators

/-- A finite sum of reals, read in the extended reals, is the sum of the terms read there. -/
theorem coe_sum {ι : Type} (s : Finset ι) (f : ι → ℝ) : ((∑ i ∈ s, f i : ℝ) : EReal) = ∑ i ∈ s, (f i : EReal) :=
  map_sum (⟨⟨fun x : ℝ => (x : EReal), EReal.coe_zero⟩, EReal.coe_add⟩ : ℝ →+ EReal) f s

/-! ## Infinite values -/

/-- An infinite extended real. -/
def Inf (z : EReal) : Prop := z = ⊤ ∨ z = ⊥

/-- A real is not infinite. -/
theorem not_inf (r : ℝ) : ¬Inf (r : EReal) := fun h => h.elim (EReal.coe_ne_top r) (EReal.coe_ne_bot r)

/-- What is not infinite is a real. -/
theorem real_of_not_inf (z : EReal) (h : ¬Inf z) : ∃ r : ℝ, z = (r : EReal) :=
  ⟨z.toReal, (EReal.coe_toReal (fun e => h (Or.inl e)) (fun e => h (Or.inr e))).symm⟩

/-- A sum of two is infinite when one of them is. -/
theorem inf_add (a b : EReal) : Inf (a + b) ↔ Inf a ∨ Inf b := by
  unfold Inf
  induction a using EReal.rec with
  | bot => simp
  | top => induction b using EReal.rec with
    | bot => simp
    | top => simp
    | coe s => simp
  | coe r => induction b using EReal.rec with
    | bot => simp
    | top => simp
    | coe s => exact iff_of_false (by rw [← EReal.coe_add]; exact not_inf (r + s)) (not_or.2 ⟨not_inf r, not_inf s⟩)

/-- A negation is infinite when what is negated is. -/
theorem inf_neg (a : EReal) : Inf (-a) ↔ Inf a := by
  unfold Inf; rw [EReal.neg_eq_top_iff, EReal.neg_eq_bot_iff, or_comm]

/-- A difference is infinite when one of the two is. -/
theorem inf_sub (a b : EReal) : Inf (a - b) ↔ Inf a ∨ Inf b := by
  rw [sub_eq_add_neg, inf_add, inf_neg]

/-- A real multiple is infinite when the factor is not zero and the multiplied is infinite. -/
theorem inf_scale (r : ℝ) (a : EReal) : Inf ((r : EReal) * a) ↔ r ≠ 0 ∧ Inf a := by
  induction a using EReal.rec with
  | coe s => exact iff_of_false (by rw [← EReal.coe_mul]; exact not_inf (r * s)) (fun h => not_inf s h.2)
  | top =>
    rcases lt_trichotomy r 0 with h | h | h
    · rw [EReal.coe_mul_top_of_neg h]; simp [Inf, h.ne]
    · subst h; simp [Inf]
    · rw [EReal.coe_mul_top_of_pos h]; simp [Inf, h.ne']
  | bot =>
    rcases lt_trichotomy r 0 with h | h | h
    · rw [EReal.coe_mul_bot_of_neg h]; simp [Inf, h.ne]
    · subst h; simp [Inf]
    · rw [EReal.coe_mul_bot_of_pos h]; simp [Inf, h.ne']

/-- The same with the factor on the right. -/
theorem inf_scale' (r : ℝ) (a : EReal) : Inf (a * (r : EReal)) ↔ Inf a ∧ r ≠ 0 := by
  rw [mul_comm, inf_scale, and_comm]

/-- A finite sum is infinite when one of its terms is. -/
theorem inf_sum {ι : Type} (s : Finset ι) (f : ι → EReal) : Inf (∑ i ∈ s, f i) ↔ ∃ i ∈ s, Inf (f i) := by
  classical
  induction s using Finset.induction_on with
  | empty => simp [Inf]
  | insert a s ha ih => rw [Finset.sum_insert ha, inf_add, ih]; simp

/-- A square is not negative, -/
theorem sq_pos (a : EReal) : 0 ≤ a * a := by
  induction a using EReal.rec with
  | bot => simp
  | top => simp
  | coe r => rw [← EReal.coe_mul]; exact_mod_cast mul_self_nonneg r

/-- of an infinite value it is the positive infinity, -/
theorem sq_inf (a : EReal) (h : Inf a) : a * a = ⊤ := by
  rcases h with h | h <;> subst h <;> simp

/-- and it is zero only of zero. -/
theorem sq_zero (a : EReal) (h : a * a = 0) : a = 0 := (mul_eq_zero.1 h).elim id id

/-- Of two values that are not negative, one of them infinite, the sum is. -/
theorem add_top (a b : EReal) (ha : 0 ≤ a) (hb : 0 ≤ b) (h : a = ⊤ ∨ b = ⊤) : a + b = ⊤ := by
  rcases h with h | h <;> subst h
  · exact EReal.top_add_of_ne_bot (ne_of_gt (lt_of_lt_of_le EReal.bot_lt_zero hb))
  · exact EReal.add_top_of_ne_bot (ne_of_gt (lt_of_lt_of_le EReal.bot_lt_zero ha))

/-- A sum of two squares is not negative, -/
theorem two_pos (a b : EReal) : 0 ≤ a * a + b * b := add_nonneg (sq_pos a) (sq_pos b)

/-- of an infinite value it is the positive infinity, -/
theorem two_inf (a b : EReal) (h : Inf a ∨ Inf b) : a * a + b * b = ⊤ :=
  add_top _ _ (sq_pos a) (sq_pos b) (h.imp (sq_inf a) (sq_inf b))

/-- and it is zero only of zeros. -/
theorem two_zero (a b : EReal) (h : a * a + b * b = 0) : a = 0 ∧ b = 0 := by
  have := (add_eq_zero_iff_of_nonneg (sq_pos a) (sq_pos b)).1 h
  exact ⟨sq_zero a this.1, sq_zero b this.2⟩

/-- A finite sum of values that are not negative, one of them infinite, is. -/
theorem sum_top {ι : Type} (s : Finset ι) (f : ι → EReal) (hf : ∀ i ∈ s, 0 ≤ f i) (i : ι) (hi : i ∈ s) (h : f i = ⊤) : ∑ j ∈ s, f j = ⊤ :=
  top_le_iff.1 (h ▸ Finset.single_le_sum hf hi)

/-- The product of two tables and an image is infinite when the image is infinite somewhere where neither table is zero. -/
theorem inf_dots (a b : Fin 512 → ℝ) (x : Fin 512 → Fin 512 → EReal) (k l : Fin 512) (h : Inf (x k l)) (ha : a k ≠ 0) (hb : b l ≠ 0) :
    Inf (∑ k : Fin 512, (a k : EReal) * ∑ l : Fin 512, x k l * (b l : EReal)) :=
  (inf_sum _ _).2 ⟨k, Finset.mem_univ _, (inf_scale _ _).2 ⟨ha, (inf_sum _ _).2 ⟨l, Finset.mem_univ _, (inf_scale' _ _).2 ⟨h, hb⟩⟩⟩⟩

/-- The same with the rows summed first. -/
theorem inf_dots' (a b : Fin 512 → ℝ) (x : Fin 512 → Fin 512 → EReal) (k l : Fin 512) (h : Inf (x k l)) (ha : a k ≠ 0) (hb : b l ≠ 0) :
    Inf (∑ l : Fin 512, (∑ k : Fin 512, x k l * (a k : EReal)) * (b l : EReal)) :=
  (inf_sum _ _).2 ⟨l, Finset.mem_univ _, (inf_scale' _ _).2 ⟨(inf_sum _ _).2 ⟨k, Finset.mem_univ _, (inf_scale' _ _).2 ⟨h, ha⟩⟩, hb⟩⟩

/-- Cosine and sine do not vanish together. -/
theorem cos_or_sin (i k : ℕ) : cosT i k ≠ 0 ∨ sinT i k ≠ 0 := by
  by_contra h
  push Not at h
  have q := Real.sin_sq_add_cos_sq (ang (i * k))
  unfold cosT sinT at h
  rw [h.1, h.2] at q
  norm_num at q

/-! ## The transform of an image with entries in the extended reals -/

/-- A real image, read in the extended reals. -/
def up (x : Fin 512 → Fin 512 → ℝ) : Fin 512 → Fin 512 → EReal := fun k l => (x k l : EReal)

/-- An image has an infinite entry, or it is a real one. -/
theorem real_or_inf (x : Fin 512 → Fin 512 → EReal) : (∃ k l, Inf (x k l)) ∨ ∃ r, x = up r := by
  by_cases h : ∃ k l, Inf (x k l)
  · exact Or.inl h
  · push Not at h
    choose r hr using fun k l => real_of_not_inf (x k l) (h k l)
    exact Or.inr ⟨r, funext fun k => funext fun l => hr k l⟩

/-- The product of an image with a table on either side, rows summed last. -/
def eDots (x : Fin 512 → Fin 512 → EReal) (a b : ℕ → ℕ → ℝ) (u v : ℕ) : EReal :=
  ∑ k : Fin 512, ((a u k : ℝ) : EReal) * ∑ l : Fin 512, x k l * ((b l v : ℝ) : EReal)

/-- The same with the rows summed first. -/
def eDots' (x : Fin 512 → Fin 512 → EReal) (a b : ℕ → ℕ → ℝ) (h w : ℕ) : EReal :=
  ∑ l : Fin 512, (∑ k : Fin 512, x k l * ((a h k : ℝ) : EReal)) * ((b l w : ℝ) : EReal)

/-- Of a real image the product is real. -/
theorem eDots_up (x : Fin 512 → Fin 512 → ℝ) (a b : ℕ → ℕ → ℝ) (u v : ℕ) :
    eDots (up x) a b u v = ((∑ k : Fin 512, a u k * ∑ l : Fin 512, x k l * b l v : ℝ) : EReal) := by
  unfold eDots up
  rw [coe_sum]
  refine Finset.sum_congr rfl fun k _ => ?_
  rw [EReal.coe_mul, coe_sum]
  exact congrArg _ (Finset.sum_congr rfl fun l _ => (EReal.coe_mul _ _).symm)

@[inherit_doc eDots_up]
theorem eDots'_up (x : Fin 512 → Fin 512 → ℝ) (a b : ℕ → ℕ → ℝ) (h w : ℕ) :
    eDots' (up x) a b h w = ((∑ l : Fin 512, (∑ k : Fin 512, x k l * a h k) * b l w : ℝ) : EReal) := by
  unfold eDots' up
  rw [coe_sum]
  refine Finset.sum_congr rfl fun l _ => ?_
  rw [EReal.coe_mul, coe_sum]
  refine congrArg (fun z : EReal => z * ((b l w : ℝ) : EReal)) (Finset.sum_congr rfl fun k _ => ?_)
  rw [EReal.coe_mul]

/-- The negated sines. -/
def nsinT (i k : ℕ) : ℝ := -sinT i k

/-- The folded transform, real part. -/
def foldReE (x : Fin 512 → Fin 512 → EReal) (u c : ℕ) : EReal :=
  if c < 272 then eDots x cosT cosT u c - eDots x nsinT nsinT u c else if c < 320 then 0
  else if c < 592 then eDots x cosT cosT u (c - 320) + eDots x nsinT nsinT u (c - 320) else 0
/-- The folded transform, imaginary part. -/
def foldImE (x : Fin 512 → Fin 512 → EReal) (u c : ℕ) : EReal :=
  if c < 272 then eDots x cosT nsinT u c + eDots x nsinT cosT u c else if c < 320 then 0
  else if c < 592 then eDots x cosT nsinT u (c - 320) - eDots x nsinT cosT u (c - 320) else 0

/-- Of a real image it is the real one. -/
theorem foldReE_up (x : Fin 512 → Fin 512 → ℝ) (u c : ℕ) : foldReE (up x) u c = ((foldRe x u c : ℝ) : EReal) := by
  unfold foldReE foldRe
  simp only [eDots_up, ← EReal.coe_sub, ← EReal.coe_add]
  split_ifs <;> first | rfl | exact EReal.coe_zero.symm

@[inherit_doc foldReE_up]
theorem foldImE_up (x : Fin 512 → Fin 512 → ℝ) (u c : ℕ) : foldImE (up x) u c = ((foldIm x u c : ℝ) : EReal) := by
  unfold foldImE foldIm
  simp only [eDots_up, ← EReal.coe_sub, ← EReal.coe_add]
  split_ifs <;> first | rfl | exact EReal.coe_zero.symm

/-- Of an image with an infinite entry, one of the two parts is infinite everywhere in the left half. -/
theorem fold_inf (x : Fin 512 → Fin 512 → EReal) (k l : Fin 512) (h : Inf (x k l)) (u c : ℕ) (hc : c < 272) : Inf (foldReE x u c) ∨ Inf (foldImE x u c) := by
  unfold foldReE foldImE
  rw [if_pos hc, if_pos hc, inf_sub, inf_add]
  have d : ∀ a b : ℕ → ℕ → ℝ, a u k ≠ 0 → b l c ≠ 0 → Inf (eDots x a b u c) := fun a b ha hb =>
    inf_dots (fun k => a u k) (fun l => b l c) x k l h ha hb
  have n : ∀ i k, sinT i k ≠ 0 → nsinT i k ≠ 0 := fun i k => neg_ne_zero.2
  rcases cos_or_sin u k with p | p <;> rcases cos_or_sin l c with q | q
  · exact Or.inl (Or.inl (d _ _ p q))
  · exact Or.inr (Or.inl (d _ _ p (n _ _ q)))
  · exact Or.inr (Or.inr (d _ _ (n _ _ p) q))
  · exact Or.inl (Or.inr (d _ _ (n _ _ p) (n _ _ q)))

/-- The spectrum, real part. -/
def refReE (x : Fin 512 → Fin 512 → EReal) (h w : ℕ) : EReal := eDots' x cosT cosT h w - eDots' x sinT sinT h w
/-- The spectrum, imaginary part. -/
def refImE (x : Fin 512 → Fin 512 → EReal) (h w : ℕ) : EReal := -(eDots' x cosT sinT h w + eDots' x sinT cosT h w)

/-- Of a real image it is the discrete Fourier transform. -/
theorem refReE_up (x : Fin 512 → Fin 512 → ℝ) (h w : ℕ) : refReE (up x) h w = ((reF x h w : ℝ) : EReal) := by
  unfold refReE; rw [eDots'_up, eDots'_up, ← EReal.coe_sub, ref_re]

@[inherit_doc refReE_up]
theorem refImE_up (x : Fin 512 → Fin 512 → ℝ) (h w : ℕ) : refImE (up x) h w = ((imF x h w : ℝ) : EReal) := by
  unfold refImE; rw [eDots'_up, eDots'_up, ← EReal.coe_add, ← EReal.coe_neg, ref_im]

/-- Of an image with an infinite entry, one of the two parts is infinite at every frequency. -/
theorem ref_inf (x : Fin 512 → Fin 512 → EReal) (k l : Fin 512) (hx : Inf (x k l)) (h w : ℕ) : Inf (refReE x h w) ∨ Inf (refImE x h w) := by
  unfold refReE refImE
  rw [inf_sub, inf_neg, inf_add]
  have d : ∀ a b : ℕ → ℕ → ℝ, a h k ≠ 0 → b l w ≠ 0 → Inf (eDots' x a b h w) := fun a b ha hb =>
    inf_dots' (fun k => a h k) (fun l => b l w) x k l hx ha hb
  rcases cos_or_sin h k with p | p <;> rcases cos_or_sin l w with q | q
  · exact Or.inl (Or.inl (d _ _ p q))
  · exact Or.inr (Or.inl (d _ _ p q))
  · exact Or.inr (Or.inr (d _ _ p q))
  · exact Or.inl (Or.inr (d _ _ p q))

/-! ## The folded correlation over a ring -/

/-- The weight of the half plane. -/
def wgt (u c : ℕ) : ℝ := Real.sqrt (foldTimes u c)

/-- The column of the half plane a folded column stands for. -/
def fcol (c : ℕ) : ℕ := if c < 320 then c else 832 - c

/-- Whether a folded position is in a segment, as a number. -/
def hit (u c e : ℕ) : ℝ := if seg u (fcol c) = BitVec.ofNat 32 e then 1 else 0

/-- One row of the folded half plane of two images, binned: the part of their correlation that falls in segment `e`. -/
def line (x y : Fin 512 → Fin 512 → EReal) (u : ℕ) (e : ℕ) : EReal := ∑ c ∈ Finset.range 640,
  ((foldReE x u c * ((wgt u c : ℝ) : EReal)) * (foldReE y u c * ((wgt u c : ℝ) : EReal)) + (foldImE x u c * ((wgt u c : ℝ) : EReal)) * (foldImE y u c * ((wgt u c : ℝ) : EReal)))
    * ((hit u c e : ℝ) : EReal)

/-- All rows: the correlation over a segment's ring. -/
def ringE (x y : Fin 512 → Fin 512 → EReal) (e : ℕ) : EReal := ∑ u ∈ Finset.range 272, line x y u e

/-- A pair of real images' correlation over a segment's ring. -/
def ringCorr (x y : Fin 512 → Fin 512 → ℝ) (e : ℕ) : ℝ := ringSum (corr x y) (BitVec.ofNat 32 e)

/-- Of real images the folded correlation is the ring's. -/
theorem ringE_up (x y : Fin 512 → Fin 512 → ℝ) (e : ℕ) : ringE (up x) (up y) e = ((ringCorr x y e : ℝ) : EReal) := by
  unfold ringE ringCorr line
  rw [← fold_ring, coe_sum]
  refine Finset.sum_congr rfl fun u _ => ?_
  rw [coe_sum]
  refine Finset.sum_congr rfl fun c _ => ?_
  rw [foldReE_up, foldReE_up, foldImE_up, foldImE_up]
  simp only [← EReal.coe_mul, ← EReal.coe_add]
  rfl

/-- A segment's indicator is zero or one. -/
theorem hit_cases (u c e : ℕ) : hit u c e = 0 ∨ hit u c e = 1 := by
  unfold hit; split_ifs
  · exact Or.inr rfl
  · exact Or.inl rfl

/-- A term of an energy is not negative. -/
theorem term_pos (a b : EReal) (u c e : ℕ) : 0 ≤ (a * a + b * b) * ((hit u c e : ℝ) : EReal) := by
  rcases hit_cases u c e with h | h <;> rw [h]
  · rw [EReal.coe_zero, mul_zero]
  · rw [EReal.coe_one, mul_one]; exact two_pos a b

/-- A line's energy is not negative. -/
theorem line_pos (x : Fin 512 → Fin 512 → EReal) (u e : ℕ) : 0 ≤ line x x u e := Finset.sum_nonneg fun c _ => term_pos _ _ u c e

/-- An energy is not negative. -/
theorem ringE_pos (x : Fin 512 → Fin 512 → EReal) (e : ℕ) : 0 ≤ ringE x x e := Finset.sum_nonneg fun u _ => line_pos x u e

/-- The rounded radius of a pixel on the middle row. -/
theorem rad_axis (n : ℕ) (hn : n ≤ 256) : rad (256 : ℕ) (256 - n : ℕ) = n := by
  unfold rad
  have e : (((256 : ℕ) : ℝ) - 256) * (((256 : ℕ) : ℝ) - 256) + (((256 - n : ℕ) : ℝ) - 256) * (((256 - n : ℕ) : ℝ) - 256) = (n : ℝ) * n := by
    rw [Nat.cast_sub hn]; norm_num
  rw [e, Real.sqrt_mul_self (Nat.cast_nonneg n)]
  have f : Ideal.roundHalfEven (n : ℝ) = (n : ℤ) := by
    unfold Ideal.roundHalfEven
    rw [Int.floor_natCast]
    dsimp only
    rw [if_pos (by norm_num)]
  rw [f]; rfl

/-- Such a pixel's segment. -/
theorem seg_axis (e : ℕ) (he : e < 254) : seg (256 : ℕ) (256 - (e + 1) : ℕ) = BitVec.ofNat 32 e := by
  unfold seg
  have h : (((e + 1 : ℕ) : ℝ) - 1) = ((e : ℕ) : ℝ) := by push_cast; ring
  rw [rad_axis (e + 1) (by omega), h]
  unfold Ideal.fptosi
  rw [Ideal.toIntClamped_coe, if_pos (Nat.cast_nonneg e), Int.floor_natCast, min_eq_right (by norm_num; omega), max_eq_right (by norm_num)]
  exact BitVec.ofInt_natCast 32 e

/-- Such a pixel's multiplicity. -/
theorem times_axis (e : ℕ) (he : e < 254) : times (256 : ℕ) (256 - (e + 1) : ℕ) = 2 := by
  have h1 : |((256 : ℕ) : ℝ) - 256| = 0 := by norm_num
  have h2 : |((256 - (e + 1) : ℕ) : ℝ) - 256| = ((e + 1 : ℕ) : ℝ) := by
    rw [Nat.cast_sub (by omega), show ((256 : ℕ) : ℝ) - ((e + 1 : ℕ) : ℝ) - 256 = -((e + 1 : ℕ) : ℝ) by push_cast; ring, abs_neg, abs_of_nonneg (Nat.cast_nonneg _)]
  have hp : (1 : ℝ) ≤ ((e + 1 : ℕ) : ℝ) := by exact_mod_cast Nat.succ_pos e
  have hl : ((e + 1 : ℕ) : ℝ) ≤ 254 := by exact_mod_cast (by omega : e + 1 ≤ 254)
  have hf : far (256 : ℕ) (256 - (e + 1) : ℕ) = ((e + 1 : ℕ) : ℝ) := by unfold far; rw [h1, h2]; exact max_eq_right (by linarith)
  have hs : sqd (256 : ℕ) (256 - (e + 1) : ℕ) = ((e + 1 : ℕ) : ℝ) * ((e + 1 : ℕ) : ℝ) := by
    unfold sqd; rw [← abs_mul_abs_self (((256 : ℕ) : ℝ) - 256), ← abs_mul_abs_self (((256 - (e + 1) : ℕ) : ℝ) - 256), h1, h2]; ring
  unfold times OnRing
  rw [rad_axis (e + 1) (by omega), hf, hs, if_pos ⟨hp, hl, by linarith, by linarith⟩, if_pos]
  left
  unfold near; rw [h1, h2]; exact min_eq_left (by linarith)

/-- The energy of an image with an infinite entry is infinite on every ring. -/
theorem ringE_top (x : Fin 512 → Fin 512 → EReal) (k l : Fin 512) (h : Inf (x k l)) (e : ℕ) (he : e < 254) : ringE x x e = ⊤ := by
  refine sum_top _ _ (fun u _ => line_pos x u e) 256 (Finset.mem_range.2 (by norm_num)) ?_
  refine sum_top _ _ (fun c _ => term_pos _ _ 256 c e) (256 - (e + 1)) (Finset.mem_range.2 (by omega)) ?_
  have hc : fcol (256 - (e + 1)) = 256 - (e + 1) := if_pos (by omega)
  have h1 : hit 256 (256 - (e + 1)) e = 1 := by unfold hit; rw [hc, if_pos (seg_axis e he)]
  have hw : wgt 256 (256 - (e + 1)) ≠ 0 := by
    unfold wgt
    rw [foldTimes_eq, if_pos ⟨le_rfl, Or.inl (by omega)⟩, if_pos (show 256 - (e + 1) < 320 by omega), times_axis e he]
    exact (Real.sqrt_pos.2 (by norm_num)).ne'
  rw [h1, EReal.coe_one, mul_one]
  refine two_inf _ _ ?_
  rw [inf_scale', inf_scale']
  exact (fold_inf x k l h 256 (256 - (e + 1)) (by omega)).imp (fun p => ⟨p, hw⟩) (fun p => ⟨p, hw⟩)

/-- Where an image's energy vanishes so does its correlation with any other. -/
theorem ringE_zero (x y : Fin 512 → Fin 512 → EReal) (e : ℕ) (h : ringE y y e = 0) : ringE x y e = 0 ∧ ringE y x e = 0 := by
  have h1 := (Finset.sum_eq_zero_iff_of_nonneg fun u _ => line_pos y u e).1 h
  have h2 : ∀ u ∈ Finset.range 272, ∀ c ∈ Finset.range 640, hit u c e = 0
      ∨ (foldReE y u c * ((wgt u c : ℝ) : EReal) = 0 ∧ foldImE y u c * ((wgt u c : ℝ) : EReal) = 0) := fun u hu c hc => by
    have t := (Finset.sum_eq_zero_iff_of_nonneg fun c _ => term_pos _ _ u c e).1 (h1 u hu) c hc
    rcases hit_cases u c e with p | p
    · exact Or.inl p
    · rw [p, EReal.coe_one, mul_one] at t; exact Or.inr (two_zero _ _ t)
  constructor <;> refine Finset.sum_eq_zero fun u hu => Finset.sum_eq_zero fun c hc => ?_
  · rcases h2 u hu c hc with p | p
    · rw [p, EReal.coe_zero, mul_zero]
    · rw [p.1, p.2, mul_zero, mul_zero, add_zero, zero_mul]
  · rcases h2 u hu c hc with p | p
    · rw [p, EReal.coe_zero, mul_zero]
    · rw [p.1, p.2, zero_mul, zero_mul, add_zero, zero_mul]

/-! ## The ratio -/

/-- The root of a value that is not negative, squared, is the value. -/
theorem sqrt_sq (z : EReal) (h : 0 ≤ z) : Ideal.sqrt z * Ideal.sqrt z = z := by
  induction z using EReal.rec with
  | bot => exact absurd h (by simp)
  | top => simp
  | coe r =>
    have hr : 0 ≤ r := by exact_mod_cast h
    rw [Ideal.sqrt_coe, if_neg (not_lt.2 hr), ← EReal.coe_mul, Real.mul_self_sqrt hr]

/-- Anything over an infinite root is zero. -/
theorem div_root_top (n : EReal) : Ideal.div n (Ideal.sqrt ⊤) = 0 := by
  rw [Ideal.sqrt_top]
  unfold Ideal.div
  rw [if_neg (by simp), EReal.inv_top, mul_zero]

/-- With one energy infinite, two quotients over the same energies are the same when both numerators vanish where an energy does. -/
theorem same_div (n m a b : EReal) (ha : 0 ≤ a) (hb : 0 ≤ b) (ht : a = ⊤ ∨ b = ⊤) (h0 : a = 0 ∨ b = 0 → n = m) :
    Ideal.div n (Ideal.sqrt (a * b)) = Ideal.div m (Ideal.sqrt (a * b)) := by
  by_cases h : a = 0 ∨ b = 0
  · rw [h0 h]
  · push Not at h
    have e : a * b = ⊤ := by
      rcases ht with t | t <;> subst t
      · exact EReal.top_mul_of_pos (lt_of_le_of_ne hb h.2.symm)
      · exact EReal.mul_top_of_pos (lt_of_le_of_ne ha h.1.symm)
    rw [e, div_root_top, div_root_top]

end Cert.Proof

end
-- ==== Proof.Dft.lean ====
module

public import proofs.«01_k».proof.Proof.Ext
public import proofs.«01_k».proof.Proof.Gen.KernelIdeal.Frame
public import Idealize.ShloMosaic.Lib.Pointwise
public import Idealize.ShloMosaic.Lib.Pipeline.Value
public import Idealize.ShloMosaic.Lib.IdealHost
public import Mathlib.Tactic.NormNum
public import Mathlib.Tactic.Linarith

@[expose] public section

noncomputable section

namespace Cert.Proof

open Idealize.ShloMosaic Cert.KernelIdeal Cert.KernelIdeal.Gen
open scoped BigOperators

/-! ## Region 0's vectors, at an index -/

/-- The product of a row table with an image's columns' transform. -/
theorem rows_apply (D : FVec Ideal S272x512 .f32) (Y : FVec Ideal S512x272 .f32) (u v : Fin 272) :
    matmul dot_S272x512_S512x272_S272x272_1_0_0_1_n_n none D Y (constant (F := Ideal) S272x272 .f32 0x00000000#32) (ix2 u v)
      = ∑ k : Fin 512, D (ix2 u k) * Y (ix2 k v) := by
  pointwise

/-- With the tables' values real, it is the image's product with both. -/
theorem rows_real (D : FVec Ideal S272x512 .f32) (Y : FVec Ideal S512x272 .f32) (d : ℕ → ℕ → ℝ) (t : ℕ → ℕ → ℝ) (x : Fin 512 → Fin 512 → EReal)
    (hD : ∀ (u : Fin 272) (k : Fin 512), D (ix2 u k) = ((d u k : ℝ) : EReal))
    (hY : ∀ (r : Fin 512) (v : Fin 272), Y (ix2 r v) = ∑ l : Fin 512, x r l * ((t l v : ℝ) : EReal)) (u v : Fin 272) :
    matmul dot_S272x512_S512x272_S272x272_1_0_0_1_n_n none D Y (constant (F := Ideal) S272x272 .f32 0x00000000#32) (ix2 u v) = eDots x d t u v := by
  rw [rows_apply]
  exact Finset.sum_congr rfl fun k _ => by rw [hD, hY]

/-- The first transform of the first image of the first array, at `(r, v)`. -/
theorem cols_x0 (T : Vec Ideal S512x272 .f32) (a b c d : Vec Ideal S1x512x512 .f32) (r : Fin 512) (v : Fin 272) :
    k0_pay8 T a b c d (ix2 r v) = ∑ l : Fin 512, a (ix3 0 r l) * T (ix2 l v) := by
  pointwise [k0_pay8, k0_pay6, k0_pay5]

/-- … of the second image of the first array. -/
theorem cols_x1 (T : Vec Ideal S512x272 .f32) (a b c d : Vec Ideal S1x512x512 .f32) (r : Fin 512) (v : Fin 272) :
    k0_pay23 (k0_pay6 T a b c d) (ix2 r v) = ∑ l : Fin 512, b (ix3 0 r l) * T (ix2 l v) := by
  pointwise [k0_pay23, k0_pay6, k0_pay5]

/-- … of the first image of the second array. -/
theorem cols_y0 (T : Vec Ideal S512x272 .f32) (a b c d : Vec Ideal S1x512x512 .f32) (r : Fin 512) (v : Fin 272) :
    k0_pay18 (k0_pay6 T a b c d) (ix2 r v) = ∑ l : Fin 512, c (ix3 0 r l) * T (ix2 l v) := by
  pointwise [k0_pay18, k0_pay6, k0_pay5]
  refine Finset.sum_congr rfl fun l _ => ?_
  rw [dif_neg (by omega), dif_neg (by omega), dif_pos (by omega)]
  refine congrArg (fun i : Fin 512 => c (ix3 0 i l) * T (ix2 l v)) (Fin.ext ?_)
  show 1024 + (r : ℕ) - 512 - 512 = r
  omega

/-- … of the second image of the second array. -/
theorem cols_y1 (T : Vec Ideal S512x272 .f32) (a b c d : Vec Ideal S1x512x512 .f32) (r : Fin 512) (v : Fin 272) :
    k0_pay29 (k0_pay6 T a b c d) (ix2 r v) = ∑ l : Fin 512, d (ix3 0 r l) * T (ix2 l v) := by
  pointwise [k0_pay29, k0_pay6, k0_pay5]
  refine Finset.sum_congr rfl fun l _ => ?_
  rw [dif_neg (by omega), dif_neg (by omega), dif_neg (by omega)]
  refine congrArg (fun i : Fin 512 => d (ix3 0 i l) * T (ix2 l v)) (Fin.ext ?_)
  show 1536 + (r : ℕ) - 512 - 512 - 512 = r
  omega

/-- The half plane from two square tables: the left half, a gap, the right half, a gap; each entry by the weight. -/
def plane (a b : ℕ → ℕ → EReal) (s : ℕ → ℕ → ℝ) (u c : ℕ) : EReal :=
  (if c < 272 then a u c else if c < 320 then 0 else if c < 592 then b u (c - 320) else 0) * ((s u c : ℝ) : EReal)

/-- The half plane, from its halves and real weights. -/
theorem halves_real (a b : FVec Ideal S272x272 .f32) (s : FVec Ideal S272x640 .f32) (z : FVec Ideal S272x48 .f32) (hz : ∀ i, z i = 0)
    (A B : ℕ → ℕ → EReal) (S : ℕ → ℕ → ℝ) (hA : ∀ u v : Fin 272, a (ix2 u v) = A u v) (hB : ∀ u v : Fin 272, b (ix2 u v) = B u v)
    (hS : ∀ (u : Fin 272) (c : Fin 640), s (ix2 u c) = ((S u c : ℝ) : EReal)) (u : Fin 272) (c : Fin 640) :
    shapeCast S1x272x640 (mulf (concatenate S272x640 1 [⟨S272x272, a⟩, ⟨S272x48, z⟩, ⟨S272x272, b⟩, ⟨S272x48, z⟩]
      concatenates_S272x272_S272x48_S272x272_S272x48_S272x640_d1) s) shapeCasts_S272x640_S1x272x640 (ix3 0 u c) = plane A B S u c := by
  pointwise
  unfold plane
  rw [hS]
  refine congrArg (· * ((S u c : ℝ) : EReal)) ?_
  by_cases h1 : (c : ℕ) < 272
  · rw [dif_pos h1, if_pos h1, hA]
  rw [dif_neg h1, if_neg h1]
  by_cases h2 : (c : ℕ) < 320
  · rw [dif_pos (by omega), if_pos h2, hz]
  rw [dif_neg (by omega), if_neg h2]
  by_cases h3 : (c : ℕ) < 592
  · rw [dif_pos (by omega), if_pos h3, hB]
    refine congrArg (fun n : ℕ => B u n) ?_
    show (c : ℕ) - 272 - 48 = c - 320
    omega
  · rw [dif_neg (by omega), if_neg h3, hz]

/-- Of a buffer of two images the first reads the earlier store's payload, -/
theorem piece0 (p q : Vec Ideal S1x272x640 .f32) (u : Fin 272) (c : Fin 640) :
    View.canon [⟨r0_6, p⟩, ⟨r0_5, q⟩] (ix3 0 u c) = q (ix3 0 u c) := by
  have e : (ix3 0 u c : S2x272x640.Idx) = r0_5.emb (ix3 0 u c) := by
    funext a; match a with
    | ⟨0, _⟩ => rfl
    | ⟨1, _⟩ => exact Fin.ext (by show (u : ℕ) = 0 + 1 * u; omega)
    | ⟨2, _⟩ => exact Fin.ext (by show (c : ℕ) = 0 + 1 * c; omega)
  rw [View.canon_cons_of_not_mem, e, View.canon_cons_emb]
  intro h
  rw [Rect.mem_set_unit] at h
  have := (h 0).1
  exact absurd (show 1 ≤ 0 from this) (by decide)

/-- and the second the later store's. -/
theorem piece1 (p q : Vec Ideal S1x272x640 .f32) (u : Fin 272) (c : Fin 640) :
    View.canon [⟨r0_6, p⟩, ⟨r0_5, q⟩] (ix3 1 u c) = p (ix3 0 u c) := by
  have e : (ix3 1 u c : S2x272x640.Idx) = r0_6.emb (ix3 0 u c) := by
    funext a; match a with
    | ⟨0, _⟩ => rfl
    | ⟨1, _⟩ => exact Fin.ext (by show (u : ℕ) = 0 + 1 * u; omega)
    | ⟨2, _⟩ => exact Fin.ext (by show (c : ℕ) = 0 + 1 * c; omega)
  rw [e, View.canon_cons_emb]

/-- The first image of a block of two, loaded. -/
theorem ld_image0 (x : Vec Ideal S2x512x512 .f32) (r l : Fin 512) : View.ld x r0_3 (ix3 0 r l) = x (ix3 0 r l) := by
  refine congrArg x ?_
  funext a; match a with
  | ⟨0, _⟩ => rfl
  | ⟨1, _⟩ => exact Fin.ext (by show 0 + 1 * (r : ℕ) = r; omega)
  | ⟨2, _⟩ => exact Fin.ext (by show 0 + 1 * (l : ℕ) = l; omega)

/-- The second image of a block of two, loaded. -/
theorem ld_image1 (x : Vec Ideal S2x512x512 .f32) (r l : Fin 512) : View.ld x r0_4 (ix3 0 r l) = x (ix3 1 r l) := by
  refine congrArg x ?_
  funext a; match a with
  | ⟨0, _⟩ => rfl
  | ⟨1, _⟩ => exact Fin.ext (by show 0 + 1 * (r : ℕ) = r; omega)
  | ⟨2, _⟩ => exact Fin.ext (by show 0 + 1 * (l : ℕ) = l; omega)

/-- A two-axis rectangle from the origin. -/
theorem origin2 : (![0, 0] : Fin 2 → ℕ) = fun _ => 0 := funext fun a => by fin_cases a <;> rfl

/-- The real part of the folded transform, from the tables and the first transform's two parts. -/
theorem plane_re (D E : FVec Ideal S272x512 .f32) (Y Z : FVec Ideal S512x272 .f32) (s : FVec Ideal S272x640 .f32) (z : FVec Ideal S272x48 .f32)
    (x : Fin 512 → Fin 512 → EReal) (hz : ∀ i, z i = 0)
    (hD : ∀ (u : Fin 272) (k : Fin 512), D (ix2 u k) = ((cosT u k : ℝ) : EReal)) (hE : ∀ (u : Fin 272) (k : Fin 512), E (ix2 u k) = ((nsinT u k : ℝ) : EReal))
    (hY : ∀ (r : Fin 512) (v : Fin 272), Y (ix2 r v) = ∑ l : Fin 512, x r l * ((cosT l v : ℝ) : EReal))
    (hZ : ∀ (r : Fin 512) (v : Fin 272), Z (ix2 r v) = ∑ l : Fin 512, x r l * ((nsinT l v : ℝ) : EReal))
    (hs : ∀ (u : Fin 272) (c : Fin 640), s (ix2 u c) = ((wgt u c : ℝ) : EReal)) (u : Fin 272) (c : Fin 640) :
    shapeCast S1x272x640 (mulf (concatenate S272x640 1
      [⟨S272x272, subf (matmul dot_S272x512_S512x272_S272x272_1_0_0_1_n_n none D Y (constant (F := Ideal) S272x272 .f32 0x00000000#32))
          (matmul dot_S272x512_S512x272_S272x272_1_0_0_1_n_n none E Z (constant (F := Ideal) S272x272 .f32 0x00000000#32))⟩, ⟨S272x48, z⟩,
        ⟨S272x272, addf (matmul dot_S272x512_S512x272_S272x272_1_0_0_1_n_n none D Y (constant (F := Ideal) S272x272 .f32 0x00000000#32))
          (matmul dot_S272x512_S512x272_S272x272_1_0_0_1_n_n none E Z (constant (F := Ideal) S272x272 .f32 0x00000000#32))⟩, ⟨S272x48, z⟩]
      concatenates_S272x272_S272x48_S272x272_S272x48_S272x640_d1) s) shapeCasts_S272x640_S1x272x640 (ix3 0 u c)
      = foldReE x u c * ((wgt u c : ℝ) : EReal) := by
  refine halves_real _ _ s z hz (fun u v => eDots x cosT cosT u v - eDots x nsinT nsinT u v) (fun u v => eDots x cosT cosT u v + eDots x nsinT nsinT u v) wgt (fun u v => ?_) (fun u v => ?_) hs u c
  · show _ - _ = _
    rw [rows_real D Y cosT cosT x hD hY, rows_real E Z nsinT nsinT x hE hZ]
  · show _ + _ = _
    rw [rows_real D Y cosT cosT x hD hY, rows_real E Z nsinT nsinT x hE hZ]

/-- The imaginary part likewise. -/
theorem plane_im (D E : FVec Ideal S272x512 .f32) (Y Z : FVec Ideal S512x272 .f32) (s : FVec Ideal S272x640 .f32) (z : FVec Ideal S272x48 .f32)
    (x : Fin 512 → Fin 512 → EReal) (hz : ∀ i, z i = 0)
    (hD : ∀ (u : Fin 272) (k : Fin 512), D (ix2 u k) = ((cosT u k : ℝ) : EReal)) (hE : ∀ (u : Fin 272) (k : Fin 512), E (ix2 u k) = ((nsinT u k : ℝ) : EReal))
    (hY : ∀ (r : Fin 512) (v : Fin 272), Y (ix2 r v) = ∑ l : Fin 512, x r l * ((cosT l v : ℝ) : EReal))
    (hZ : ∀ (r : Fin 512) (v : Fin 272), Z (ix2 r v) = ∑ l : Fin 512, x r l * ((nsinT l v : ℝ) : EReal))
    (hs : ∀ (u : Fin 272) (c : Fin 640), s (ix2 u c) = ((wgt u c : ℝ) : EReal)) (u : Fin 272) (c : Fin 640) :
    shapeCast S1x272x640 (mulf (concatenate S272x640 1
      [⟨S272x272, addf (matmul dot_S272x512_S512x272_S272x272_1_0_0_1_n_n none D Z (constant (F := Ideal) S272x272 .f32 0x00000000#32))
          (matmul dot_S272x512_S512x272_S272x272_1_0_0_1_n_n none E Y (constant (F := Ideal) S272x272 .f32 0x00000000#32))⟩, ⟨S272x48, z⟩,
        ⟨S272x272, subf (matmul dot_S272x512_S512x272_S272x272_1_0_0_1_n_n none D Z (constant (F := Ideal) S272x272 .f32 0x00000000#32))
          (matmul dot_S272x512_S512x272_S272x272_1_0_0_1_n_n none E Y (constant (F := Ideal) S272x272 .f32 0x00000000#32))⟩, ⟨S272x48, z⟩]
      concatenates_S272x272_S272x48_S272x272_S272x48_S272x640_d1) s) shapeCasts_S272x640_S1x272x640 (ix3 0 u c)
      = foldImE x u c * ((wgt u c : ℝ) : EReal) := by
  refine halves_real _ _ s z hz (fun u v => eDots x cosT nsinT u v + eDots x nsinT cosT u v) (fun u v => eDots x cosT nsinT u v - eDots x nsinT cosT u v) wgt (fun u v => ?_) (fun u v => ?_) hs u c
  · show _ + _ = _
    rw [rows_real D Z cosT nsinT x hD hZ, rows_real E Y nsinT cosT x hE hY]
  · show _ - _ = _
    rw [rows_real D Z cosT nsinT x hD hZ, rows_real E Y nsinT cosT x hE hY]

section Out

variable (X Y : Fin 2 → Fin 512 → Fin 512 → EReal)
  (x0 x1 : Vec Ideal S2x512x512 .f32) (x2 x3 : Vec Ideal S512x272 .f32) (x4 x5 : Vec Ideal S272x512 .f32) (x6 : Vec Ideal S272x640 .f32)
  (h0 : ∀ k r l, x0 (ix3 k r l) = X k r l) (h1 : ∀ k r l, x1 (ix3 k r l) = Y k r l)
  (h2 : ∀ (l : Fin 512) (v : Fin 272), x2 (ix2 l v) = ((cosT l v : ℝ) : EReal)) (h3 : ∀ (l : Fin 512) (v : Fin 272), x3 (ix2 l v) = ((nsinT l v : ℝ) : EReal))
  (h4 : ∀ (u : Fin 272) (k : Fin 512), x4 (ix2 u k) = ((cosT u k : ℝ) : EReal)) (h5 : ∀ (u : Fin 272) (k : Fin 512), x5 (ix2 u k) = ((nsinT u k : ℝ) : EReal))
  (h6 : ∀ (u : Fin 272) (c : Fin 640), x6 (ix2 u c) = ((wgt u c : ℝ) : EReal))

include h4 in
/-- The cosine table, as a body loads it whole. -/
theorem tab4 (u : Fin 272) (k : Fin 512) : k0_pay2 (View.ld x4 r0_1) (ix2 u k) = ((cosT u k : ℝ) : EReal) := by
  unfold k0_pay2; rw [View.ld_unit_zero origin2, shapeCast_self]; exact h4 u k
include h5 in
/-- The sine table, as a body loads it whole. -/
theorem tab5 (u : Fin 272) (k : Fin 512) : k0_pay3 (View.ld x5 r0_1) (ix2 u k) = ((nsinT u k : ℝ) : EReal) := by
  unfold k0_pay3; rw [View.ld_unit_zero origin2, shapeCast_self]; exact h5 u k
include h6 in
/-- The table of the roots of the multiplicities, as a body loads it whole. -/
theorem tab6 (u : Fin 272) (c : Fin 640) : k0_pay4 (View.ld x6 r0_2) (ix2 u c) = ((wgt u c : ℝ) : EReal) := by
  unfold k0_pay4; rw [View.ld_unit_zero origin2, shapeCast_self]; exact h6 u c

include h0 h2 in
/-- The cosine part of the first transform of the first image of the first array. -/
theorem first_x0_c (r : Fin 512) (v : Fin 272) :
    k0_pay8 (View.ld x2 r0_0) (View.ld x0 r0_3) (View.ld x0 r0_4) (View.ld x1 r0_3) (View.ld x1 r0_4) (ix2 r v)
      = ∑ l : Fin 512, X 0 r l * ((cosT l v : ℝ) : EReal) := by
  rw [cols_x0, View.ld_unit_zero origin2]
  exact Finset.sum_congr rfl fun l _ => by rw [ld_image0, h0, h2]

include h0 h3 in
/-- The sine part of the first transform of the first image of the first array. -/
theorem first_x0_s (r : Fin 512) (v : Fin 272) :
    k0_pay8 (View.ld x3 r0_0) (View.ld x0 r0_3) (View.ld x0 r0_4) (View.ld x1 r0_3) (View.ld x1 r0_4) (ix2 r v)
      = ∑ l : Fin 512, X 0 r l * ((nsinT l v : ℝ) : EReal) := by
  rw [cols_x0, View.ld_unit_zero origin2]
  exact Finset.sum_congr rfl fun l _ => by rw [ld_image0, h0, h3]

include h0 h2 in
/-- The cosine part of the first transform of the second image of the first array. -/
theorem first_x1_c (r : Fin 512) (v : Fin 272) :
    k0_pay23 (k0_pay6 (View.ld x2 r0_0) (View.ld x0 r0_3) (View.ld x0 r0_4) (View.ld x1 r0_3) (View.ld x1 r0_4)) (ix2 r v)
      = ∑ l : Fin 512, X 1 r l * ((cosT l v : ℝ) : EReal) := by
  rw [cols_x1, View.ld_unit_zero origin2]
  exact Finset.sum_congr rfl fun l _ => by rw [ld_image1, h0, h2]

include h0 h3 in
/-- The sine part of the first transform of the second image of the first array. -/
theorem first_x1_s (r : Fin 512) (v : Fin 272) :
    k0_pay23 (k0_pay6 (View.ld x3 r0_0) (View.ld x0 r0_3) (View.ld x0 r0_4) (View.ld x1 r0_3) (View.ld x1 r0_4)) (ix2 r v)
      = ∑ l : Fin 512, X 1 r l * ((nsinT l v : ℝ) : EReal) := by
  rw [cols_x1, View.ld_unit_zero origin2]
  exact Finset.sum_congr rfl fun l _ => by rw [ld_image1, h0, h3]

include h1 h2 in
/-- The cosine part of the first transform of the first image of the second array. -/
theorem first_y0_c (r : Fin 512) (v : Fin 272) :
    k0_pay18 (k0_pay6 (View.ld x2 r0_0) (View.ld x0 r0_3) (View.ld x0 r0_4) (View.ld x1 r0_3) (View.ld x1 r0_4)) (ix2 r v)
      = ∑ l : Fin 512, Y 0 r l * ((cosT l v : ℝ) : EReal) := by
  rw [cols_y0, View.ld_unit_zero origin2]
  exact Finset.sum_congr rfl fun l _ => by rw [ld_image0, h1, h2]

include h1 h3 in
/-- The sine part of the first transform of the first image of the second array. -/
theorem first_y0_s (r : Fin 512) (v : Fin 272) :
    k0_pay18 (k0_pay6 (View.ld x3 r0_0) (View.ld x0 r0_3) (View.ld x0 r0_4) (View.ld x1 r0_3) (View.ld x1 r0_4)) (ix2 r v)
      = ∑ l : Fin 512, Y 0 r l * ((nsinT l v : ℝ) : EReal) := by
  rw [cols_y0, View.ld_unit_zero origin2]
  exact Finset.sum_congr rfl fun l _ => by rw [ld_image0, h1, h3]

include h1 h2 in
/-- The cosine part of the first transform of the second image of the second array. -/
theorem first_y1_c (r : Fin 512) (v : Fin 272) :
    k0_pay29 (k0_pay6 (View.ld x2 r0_0) (View.ld x0 r0_3) (View.ld x0 r0_4) (View.ld x1 r0_3) (View.ld x1 r0_4)) (ix2 r v)
      = ∑ l : Fin 512, Y 1 r l * ((cosT l v : ℝ) : EReal) := by
  rw [cols_y1, View.ld_unit_zero origin2]
  exact Finset.sum_congr rfl fun l _ => by rw [ld_image1, h1, h2]

include h1 h3 in
/-- The sine part of the first transform of the second image of the second array. -/
theorem first_y1_s (r : Fin 512) (v : Fin 272) :
    k0_pay29 (k0_pay6 (View.ld x3 r0_0) (View.ld x0 r0_3) (View.ld x0 r0_4) (View.ld x1 r0_3) (View.ld x1 r0_4)) (ix2 r v)
      = ∑ l : Fin 512, Y 1 r l * ((nsinT l v : ℝ) : EReal) := by
  rw [cols_y1, View.ld_unit_zero origin2]
  exact Finset.sum_congr rfl fun l _ => by rw [ld_image1, h1, h3]

include h0 h2 h3 h4 h5 h6 in
/-- What the body leaves in output 7's block: the real part of the first array's folded transform, weighted. -/
theorem out_7 (k : Fin 2) (u : Fin 272) (c : Fin 640) :
    out0_7 x0 x1 x2 x3 x4 x5 x6 (ix3 k u c) = foldReE (X k) u c * ((wgt u c : ℝ) : EReal) := by
  unfold_out out0_7
  match k with
  | 0 =>
    rw [piece0]
    exact plane_re _ _ _ _ _ _ (X 0) (fun i => by first | rfl | exact Ideal.ofBits_zero_f32) (tab4 x4 h4) (tab5 x5 h5)
      (first_x0_c X x0 x1 x2 h0 h2) (first_x0_s X x0 x1 x3 h0 h3) (tab6 x6 h6) u c
  | 1 =>
    rw [piece1]
    exact plane_re _ _ _ _ _ _ (X 1) (fun i => by first | rfl | exact Ideal.ofBits_zero_f32) (tab4 x4 h4) (tab5 x5 h5)
      (first_x1_c X x0 x1 x2 h0 h2) (first_x1_s X x0 x1 x3 h0 h3) (tab6 x6 h6) u c

include h0 h2 h3 h4 h5 h6 in
/-- What the body leaves in output 8's block: the imaginary part of the first array's folded transform, weighted. -/
theorem out_8 (k : Fin 2) (u : Fin 272) (c : Fin 640) :
    out0_8 x0 x1 x2 x3 x4 x5 x6 (ix3 k u c) = foldImE (X k) u c * ((wgt u c : ℝ) : EReal) := by
  unfold_out out0_8
  match k with
  | 0 =>
    rw [piece0]
    exact plane_im _ _ _ _ _ _ (X 0) (fun i => by first | rfl | exact Ideal.ofBits_zero_f32) (tab4 x4 h4) (tab5 x5 h5)
      (first_x0_c X x0 x1 x2 h0 h2) (first_x0_s X x0 x1 x3 h0 h3) (tab6 x6 h6) u c
  | 1 =>
    rw [piece1]
    exact plane_im _ _ _ _ _ _ (X 1) (fun i => by first | rfl | exact Ideal.ofBits_zero_f32) (tab4 x4 h4) (tab5 x5 h5)
      (first_x1_c X x0 x1 x2 h0 h2) (first_x1_s X x0 x1 x3 h0 h3) (tab6 x6 h6) u c

include h1 h2 h3 h4 h5 h6 in
/-- What the body leaves in output 9's block: the real part of the second array's folded transform, weighted. -/
theorem out_9 (k : Fin 2) (u : Fin 272) (c : Fin 640) :
    out0_9 x0 x1 x2 x3 x4 x5 x6 (ix3 k u c) = foldReE (Y k) u c * ((wgt u c : ℝ) : EReal) := by
  unfold_out out0_9
  match k with
  | 0 =>
    rw [piece0]
    exact plane_re _ _ _ _ _ _ (Y 0) (fun i => by first | rfl | exact Ideal.ofBits_zero_f32) (tab4 x4 h4) (tab5 x5 h5)
      (first_y0_c Y x0 x1 x2 h1 h2) (first_y0_s Y x0 x1 x3 h1 h3) (tab6 x6 h6) u c
  | 1 =>
    rw [piece1]
    exact plane_re _ _ _ _ _ _ (Y 1) (fun i => by first | rfl | exact Ideal.ofBits_zero_f32) (tab4 x4 h4) (tab5 x5 h5)
      (first_y1_c Y x0 x1 x2 h1 h2) (first_y1_s Y x0 x1 x3 h1 h3) (tab6 x6 h6) u c

include h1 h2 h3 h4 h5 h6 in
/-- What the body leaves in output 10's block: the imaginary part of the second array's folded transform, weighted. -/
theorem out_10 (k : Fin 2) (u : Fin 272) (c : Fin 640) :
    out0_10 x0 x1 x2 x3 x4 x5 x6 (ix3 k u c) = foldImE (Y k) u c * ((wgt u c : ℝ) : EReal) := by
  unfold_out out0_10
  match k with
  | 0 =>
    rw [piece0]
    exact plane_im _ _ _ _ _ _ (Y 0) (fun i => by first | rfl | exact Ideal.ofBits_zero_f32) (tab4 x4 h4) (tab5 x5 h5)
      (first_y0_c Y x0 x1 x2 h1 h2) (first_y0_s Y x0 x1 x3 h1 h3) (tab6 x6 h6) u c
  | 1 =>
    rw [piece1]
    exact plane_im _ _ _ _ _ _ (Y 1) (fun i => by first | rfl | exact Ideal.ofBits_zero_f32) (tab4 x4 h4) (tab5 x5 h5)
      (first_y1_c Y x0 x1 x2 h1 h2) (first_y1_s Y x0 x1 x3 h1 h3) (tab6 x6 h6) u c

end Out

end Cert.Proof

end
-- ==== Proof.Planes.lean ====
module

public import proofs.«01_k».proof.Proof.Dft

@[expose] public section

noncomputable section

namespace Cert.Proof

open Idealize.ShloMosaic Cert.KernelIdeal Cert.KernelIdeal.Gen
open scoped BigOperators

variable (V : (c : Dev nD) → (b : Ref sig .tc) → Buf (Elt Ideal) ((c.tc : Thread nD τ).loc b))

/-- Image `k` of point `t` is one of the forty-eight. -/
theorem lt0 (t : Fin cfg0.N) (k : Fin 2) : t.val * 2 + k < 48 := by have := t.isLt; have : cfg0.N = 24 := N_0; omega

/-- Window 0 of region 0 is at block `t` of its array at point `t`. -/
theorem at0_0 : ∀ t : Fin cfg0.N, win0_0.index t 0 = t.val ∧ win0_0.index t 1 = 0 ∧ win0_0.index t 2 = 0 := by decide +kernel

/-- Window 1 of region 0 is at block `t` of its array at point `t`. -/
theorem at0_1 : ∀ t : Fin cfg0.N, win0_1.index t 0 = t.val ∧ win0_1.index t 1 = 0 ∧ win0_1.index t 2 = 0 := by decide +kernel

/-- Window 7 of region 0 is at block `t` of its array at point `t`. -/
theorem at0_7 : ∀ t : Fin cfg0.N, win0_7.index t 0 = t.val ∧ win0_7.index t 1 = 0 ∧ win0_7.index t 2 = 0 := by decide +kernel

/-- Window 8 of region 0 is at block `t` of its array at point `t`. -/
theorem at0_8 : ∀ t : Fin cfg0.N, win0_8.index t 0 = t.val ∧ win0_8.index t 1 = 0 ∧ win0_8.index t 2 = 0 := by decide +kernel

/-- Window 9 of region 0 is at block `t` of its array at point `t`. -/
theorem at0_9 : ∀ t : Fin cfg0.N, win0_9.index t 0 = t.val ∧ win0_9.index t 1 = 0 ∧ win0_9.index t 2 = 0 := by decide +kernel

/-- Window 10 of region 0 is at block `t` of its array at point `t`. -/
theorem at0_10 : ∀ t : Fin cfg0.N, win0_10.index t 0 = t.val ∧ win0_10.index t 1 = 0 ∧ win0_10.index t 2 = 0 := by decide +kernel

/-- Window 2 of region 0 is its whole array at every point. -/
theorem at0_2 : ∀ t : Fin cfg0.N, win0_2.index t 0 = 0 ∧ win0_2.index t 1 = 0 := by decide +kernel

/-- Window 3 of region 0 is its whole array at every point. -/
theorem at0_3 : ∀ t : Fin cfg0.N, win0_3.index t 0 = 0 ∧ win0_3.index t 1 = 0 := by decide +kernel

/-- Window 4 of region 0 is its whole array at every point. -/
theorem at0_4 : ∀ t : Fin cfg0.N, win0_4.index t 0 = 0 ∧ win0_4.index t 1 = 0 := by decide +kernel

/-- Window 5 of region 0 is its whole array at every point. -/
theorem at0_5 : ∀ t : Fin cfg0.N, win0_5.index t 0 = 0 ∧ win0_5.index t 1 = 0 := by decide +kernel

/-- Window 6 of region 0 is its whole array at every point. -/
theorem at0_6 : ∀ t : Fin cfg0.N, win0_6.index t 0 = 0 ∧ win0_6.index t 1 = 0 := by decide +kernel

/-- An image of window 0's block, in its array. -/
theorem blk0_0 (c : Dev nD) (t : Fin cfg0.N) (k : Fin 2) (r l : Fin 512) :
    (iblk0 V c 0 t : Vec Ideal S2x512x512 .f32) (ix3 k r l) = (V c main_v0 : Vec Ideal S48x512x512 .f32) (ix3 ⟨t.val * 2 + k, lt0 t k⟩ r l) := by
  unfold iblk0
  show (V c main_v0 : Vec Ideal S48x512x512 .f32) _ = _
  refine congrArg (V c main_v0 : Vec Ideal S48x512x512 .f32) ?_
  funext a
  obtain ⟨e0, e1, e2⟩ := at0_0 t
  match a with
  | ⟨0, _⟩ => exact Fin.ext (by show win0_0.index t 0 * 2 + 1 * (k : ℕ) = t.val * 2 + k; omega)
  | ⟨1, _⟩ => exact Fin.ext (by show win0_0.index t 1 * 512 + 1 * (r : ℕ) = r; omega)
  | ⟨2, _⟩ => exact Fin.ext (by show win0_0.index t 2 * 512 + 1 * (l : ℕ) = l; omega)

/-- An image of window 1's block, in its array. -/
theorem blk0_1 (c : Dev nD) (t : Fin cfg0.N) (k : Fin 2) (r l : Fin 512) :
    (iblk0 V c 1 t : Vec Ideal S2x512x512 .f32) (ix3 k r l) = (V c main_v1 : Vec Ideal S48x512x512 .f32) (ix3 ⟨t.val * 2 + k, lt0 t k⟩ r l) := by
  unfold iblk0
  show (V c main_v1 : Vec Ideal S48x512x512 .f32) _ = _
  refine congrArg (V c main_v1 : Vec Ideal S48x512x512 .f32) ?_
  funext a
  obtain ⟨e0, e1, e2⟩ := at0_1 t
  match a with
  | ⟨0, _⟩ => exact Fin.ext (by show win0_1.index t 0 * 2 + 1 * (k : ℕ) = t.val * 2 + k; omega)
  | ⟨1, _⟩ => exact Fin.ext (by show win0_1.index t 1 * 512 + 1 * (r : ℕ) = r; omega)
  | ⟨2, _⟩ => exact Fin.ext (by show win0_1.index t 2 * 512 + 1 * (l : ℕ) = l; omega)

/-- Window 2's block is its array. -/
theorem blk0_2 (c : Dev nD) (t : Fin cfg0.N) (u : Fin 512) (v : Fin 272) :
    (iblk0 V c 2 t : Vec Ideal S512x272 .f32) (ix2 u v) = (V c main_v80 : Vec Ideal S512x272 .f32) (ix2 u v) := by
  unfold iblk0
  show (V c main_v80 : Vec Ideal S512x272 .f32) _ = _
  refine congrArg (V c main_v80 : Vec Ideal S512x272 .f32) ?_
  funext a
  obtain ⟨e0, e1⟩ := at0_2 t
  match a with
  | ⟨0, _⟩ => exact Fin.ext (by show win0_2.index t 0 * 512 + 1 * (u : ℕ) = u; omega)
  | ⟨1, _⟩ => exact Fin.ext (by show win0_2.index t 1 * 272 + 1 * (v : ℕ) = v; omega)

/-- Window 3's block is its array. -/
theorem blk0_3 (c : Dev nD) (t : Fin cfg0.N) (u : Fin 512) (v : Fin 272) :
    (iblk0 V c 3 t : Vec Ideal S512x272 .f32) (ix2 u v) = (V c main_v81 : Vec Ideal S512x272 .f32) (ix2 u v) := by
  unfold iblk0
  show (V c main_v81 : Vec Ideal S512x272 .f32) _ = _
  refine congrArg (V c main_v81 : Vec Ideal S512x272 .f32) ?_
  funext a
  obtain ⟨e0, e1⟩ := at0_3 t
  match a with
  | ⟨0, _⟩ => exact Fin.ext (by show win0_3.index t 0 * 512 + 1 * (u : ℕ) = u; omega)
  | ⟨1, _⟩ => exact Fin.ext (by show win0_3.index t 1 * 272 + 1 * (v : ℕ) = v; omega)

/-- Window 4's block is its array. -/
theorem blk0_4 (c : Dev nD) (t : Fin cfg0.N) (u : Fin 272) (v : Fin 512) :
    (iblk0 V c 4 t : Vec Ideal S272x512 .f32) (ix2 u v) = (V c main_v82 : Vec Ideal S272x512 .f32) (ix2 u v) := by
  unfold iblk0
  show (V c main_v82 : Vec Ideal S272x512 .f32) _ = _
  refine congrArg (V c main_v82 : Vec Ideal S272x512 .f32) ?_
  funext a
  obtain ⟨e0, e1⟩ := at0_4 t
  match a with
  | ⟨0, _⟩ => exact Fin.ext (by show win0_4.index t 0 * 272 + 1 * (u : ℕ) = u; omega)
  | ⟨1, _⟩ => exact Fin.ext (by show win0_4.index t 1 * 512 + 1 * (v : ℕ) = v; omega)

/-- Window 5's block is its array. -/
theorem blk0_5 (c : Dev nD) (t : Fin cfg0.N) (u : Fin 272) (v : Fin 512) :
    (iblk0 V c 5 t : Vec Ideal S272x512 .f32) (ix2 u v) = (V c main_v83 : Vec Ideal S272x512 .f32) (ix2 u v) := by
  unfold iblk0
  show (V c main_v83 : Vec Ideal S272x512 .f32) _ = _
  refine congrArg (V c main_v83 : Vec Ideal S272x512 .f32) ?_
  funext a
  obtain ⟨e0, e1⟩ := at0_5 t
  match a with
  | ⟨0, _⟩ => exact Fin.ext (by show win0_5.index t 0 * 272 + 1 * (u : ℕ) = u; omega)
  | ⟨1, _⟩ => exact Fin.ext (by show win0_5.index t 1 * 512 + 1 * (v : ℕ) = v; omega)

/-- Window 6's block is its array. -/
theorem blk0_6 (c : Dev nD) (t : Fin cfg0.N) (u : Fin 272) (v : Fin 640) :
    (iblk0 V c 6 t : Vec Ideal S272x640 .f32) (ix2 u v) = (V c main_v79 : Vec Ideal S272x640 .f32) (ix2 u v) := by
  unfold iblk0
  show (V c main_v79 : Vec Ideal S272x640 .f32) _ = _
  refine congrArg (V c main_v79 : Vec Ideal S272x640 .f32) ?_
  funext a
  obtain ⟨e0, e1⟩ := at0_6 t
  match a with
  | ⟨0, _⟩ => exact Fin.ext (by show win0_6.index t 0 * 272 + 1 * (u : ℕ) = u; omega)
  | ⟨1, _⟩ => exact Fin.ext (by show win0_6.index t 1 * 640 + 1 * (v : ℕ) = v; omega)

/-- An index of the array is in window 7's block at the point its image is processed at. -/
theorem mem0_7 (t : Fin cfg0.N) (i : S48x272x640.Idx) (ht : t.val = (i 0 : ℕ) / 2) : i ∈ ((cfg0.win 7).blk t).view.set := by
  show i ∈ ((View.whole main_v84_0).slice (win0_7.rect t)).set
  rw [View.set_slice_whole, Rect.mem_set_unit]
  obtain ⟨e0, e1, e2⟩ := at0_7 t
  have b0 : (i 0 : ℕ) < 48 := (i 0).isLt
  have b1 : (i 1 : ℕ) < 272 := (i 1).isLt
  have b2 : (i 2 : ℕ) < 640 := (i 2).isLt
  intro a
  match a with
  | ⟨0, _⟩ => show win0_7.index t 0 * 2 ≤ (i 0 : ℕ) ∧ (i 0 : ℕ) < win0_7.index t 0 * 2 + 2; omega
  | ⟨1, _⟩ => show win0_7.index t 1 * 272 ≤ (i 1 : ℕ) ∧ (i 1 : ℕ) < win0_7.index t 1 * 272 + 272; omega
  | ⟨2, _⟩ => show win0_7.index t 2 * 640 ≤ (i 2 : ℕ) ∧ (i 2 : ℕ) < win0_7.index t 2 * 640 + 640; omega

/-- Every index is in a flushed block of window 7. -/
theorem cover0_w7 (i : S48x272x640.Idx) : ∃ t : Fin cfg0.N, (cfg0.win 7).flush t = true ∧ i ∈ ((cfg0.win 7).blk t).view.set := by
  have b0 : (i 0 : ℕ) < 48 := (i 0).isLt
  have hN : cfg0.N = 24 := N_0
  exact ⟨⟨(i 0 : ℕ) / 2, by omega⟩, flush0_7 _, mem0_7 _ i rfl⟩

/-- An index of the array is in window 8's block at the point its image is processed at. -/
theorem mem0_8 (t : Fin cfg0.N) (i : S48x272x640.Idx) (ht : t.val = (i 0 : ℕ) / 2) : i ∈ ((cfg0.win 8).blk t).view.set := by
  show i ∈ ((View.whole main_v84_1).slice (win0_8.rect t)).set
  rw [View.set_slice_whole, Rect.mem_set_unit]
  obtain ⟨e0, e1, e2⟩ := at0_8 t
  have b0 : (i 0 : ℕ) < 48 := (i 0).isLt
  have b1 : (i 1 : ℕ) < 272 := (i 1).isLt
  have b2 : (i 2 : ℕ) < 640 := (i 2).isLt
  intro a
  match a with
  | ⟨0, _⟩ => show win0_8.index t 0 * 2 ≤ (i 0 : ℕ) ∧ (i 0 : ℕ) < win0_8.index t 0 * 2 + 2; omega
  | ⟨1, _⟩ => show win0_8.index t 1 * 272 ≤ (i 1 : ℕ) ∧ (i 1 : ℕ) < win0_8.index t 1 * 272 + 272; omega
  | ⟨2, _⟩ => show win0_8.index t 2 * 640 ≤ (i 2 : ℕ) ∧ (i 2 : ℕ) < win0_8.index t 2 * 640 + 640; omega

/-- Every index is in a flushed block of window 8. -/
theorem cover0_w8 (i : S48x272x640.Idx) : ∃ t : Fin cfg0.N, (cfg0.win 8).flush t = true ∧ i ∈ ((cfg0.win 8).blk t).view.set := by
  have b0 : (i 0 : ℕ) < 48 := (i 0).isLt
  have hN : cfg0.N = 24 := N_0
  exact ⟨⟨(i 0 : ℕ) / 2, by omega⟩, flush0_8 _, mem0_8 _ i rfl⟩

/-- An index of the array is in window 9's block at the point its image is processed at. -/
theorem mem0_9 (t : Fin cfg0.N) (i : S48x272x640.Idx) (ht : t.val = (i 0 : ℕ) / 2) : i ∈ ((cfg0.win 9).blk t).view.set := by
  show i ∈ ((View.whole main_v84_2).slice (win0_9.rect t)).set
  rw [View.set_slice_whole, Rect.mem_set_unit]
  obtain ⟨e0, e1, e2⟩ := at0_9 t
  have b0 : (i 0 : ℕ) < 48 := (i 0).isLt
  have b1 : (i 1 : ℕ) < 272 := (i 1).isLt
  have b2 : (i 2 : ℕ) < 640 := (i 2).isLt
  intro a
  match a with
  | ⟨0, _⟩ => show win0_9.index t 0 * 2 ≤ (i 0 : ℕ) ∧ (i 0 : ℕ) < win0_9.index t 0 * 2 + 2; omega
  | ⟨1, _⟩ => show win0_9.index t 1 * 272 ≤ (i 1 : ℕ) ∧ (i 1 : ℕ) < win0_9.index t 1 * 272 + 272; omega
  | ⟨2, _⟩ => show win0_9.index t 2 * 640 ≤ (i 2 : ℕ) ∧ (i 2 : ℕ) < win0_9.index t 2 * 640 + 640; omega

/-- Every index is in a flushed block of window 9. -/
theorem cover0_w9 (i : S48x272x640.Idx) : ∃ t : Fin cfg0.N, (cfg0.win 9).flush t = true ∧ i ∈ ((cfg0.win 9).blk t).view.set := by
  have b0 : (i 0 : ℕ) < 48 := (i 0).isLt
  have hN : cfg0.N = 24 := N_0
  exact ⟨⟨(i 0 : ℕ) / 2, by omega⟩, flush0_9 _, mem0_9 _ i rfl⟩

/-- An index of the array is in window 10's block at the point its image is processed at. -/
theorem mem0_10 (t : Fin cfg0.N) (i : S48x272x640.Idx) (ht : t.val = (i 0 : ℕ) / 2) : i ∈ ((cfg0.win 10).blk t).view.set := by
  show i ∈ ((View.whole main_v84_3).slice (win0_10.rect t)).set
  rw [View.set_slice_whole, Rect.mem_set_unit]
  obtain ⟨e0, e1, e2⟩ := at0_10 t
  have b0 : (i 0 : ℕ) < 48 := (i 0).isLt
  have b1 : (i 1 : ℕ) < 272 := (i 1).isLt
  have b2 : (i 2 : ℕ) < 640 := (i 2).isLt
  intro a
  match a with
  | ⟨0, _⟩ => show win0_10.index t 0 * 2 ≤ (i 0 : ℕ) ∧ (i 0 : ℕ) < win0_10.index t 0 * 2 + 2; omega
  | ⟨1, _⟩ => show win0_10.index t 1 * 272 ≤ (i 1 : ℕ) ∧ (i 1 : ℕ) < win0_10.index t 1 * 272 + 272; omega
  | ⟨2, _⟩ => show win0_10.index t 2 * 640 ≤ (i 2 : ℕ) ∧ (i 2 : ℕ) < win0_10.index t 2 * 640 + 640; omega

/-- Every index is in a flushed block of window 10. -/
theorem cover0_w10 (i : S48x272x640.Idx) : ∃ t : Fin cfg0.N, (cfg0.win 10).flush t = true ∧ i ∈ ((cfg0.win 10).blk t).view.set := by
  have b0 : (i 0 : ℕ) < 48 := (i 0).isLt
  have hN : cfg0.N = 24 := N_0
  exact ⟨⟨(i 0 : ℕ) / 2, by omega⟩, flush0_10 _, mem0_10 _ i rfl⟩

section Arrays

variable (c : Dev nD) (X Y : Fin 48 → Fin 512 → Fin 512 → EReal)
  (h0 : ∀ k r l, (V c main_v0 : Vec Ideal S48x512x512 .f32) (ix3 k r l) = X k r l)
  (h1 : ∀ k r l, (V c main_v1 : Vec Ideal S48x512x512 .f32) (ix3 k r l) = Y k r l)
  (h2 : ∀ (l : Fin 512) (v : Fin 272), (V c main_v80 : Vec Ideal S512x272 .f32) (ix2 l v) = ((cosT l v : ℝ) : EReal))
  (h3 : ∀ (l : Fin 512) (v : Fin 272), (V c main_v81 : Vec Ideal S512x272 .f32) (ix2 l v) = ((nsinT l v : ℝ) : EReal))
  (h4 : ∀ (u : Fin 272) (k : Fin 512), (V c main_v82 : Vec Ideal S272x512 .f32) (ix2 u k) = ((cosT u k : ℝ) : EReal))
  (h5 : ∀ (u : Fin 272) (k : Fin 512), (V c main_v83 : Vec Ideal S272x512 .f32) (ix2 u k) = ((nsinT u k : ℝ) : EReal))
  (h6 : ∀ (u : Fin 272) (e : Fin 640), (V c main_v79 : Vec Ideal S272x640 .f32) (ix2 u e) = ((wgt u e : ℝ) : EReal))

/-- The array a region-0 output is shown to hold: a folded transform of each image, weighted. -/
def planes (f : (Fin 512 → Fin 512 → EReal) → ℕ → ℕ → EReal) (x : Fin 48 → Fin 512 → Fin 512 → EReal) : Vec Ideal S48x272x640 .f32 :=
  fun i => f (x (i 0)) (i 1 : Fin 272) (i 2 : Fin 640) * ((wgt (i 1 : Fin 272) (i 2 : Fin 640) : ℝ) : EReal)

include h0 h2 h3 h4 h5 h6 in
/-- Region 0 leaves output 7 at its planes. -/
theorem arr0_7 : (dat0 V c).arrAt 7 cfg0.N = planes foldReE X := by
  refine (dat0 V c).arrAt_eq_of_cover 7 (planes foldReE X) (fun t _ => ?_) cover0_w7
  · show (cfg0.win 7).cut (grid0.coords t) ((dat0 V c).after 7 t) = _
    rw [after0_7]
    funext j
    idx_vars j
    obtain ⟨e0, e1, e2⟩ := at0_7 t
    refine Eq.trans (b := out0_7 (iblk0 V c 0 t) (iblk0 V c 1 t) (iblk0 V c 2 t) (iblk0 V c 3 t) (iblk0 V c 4 t) (iblk0 V c 5 t) (iblk0 V c 6 t) (ix3 j0 j1 j2)) ?_ ?_
    · show out0_7 _ _ _ _ _ _ _ _ = _
      refine congrArg _ ?_
      funext a
      match a with
      | ⟨0, _⟩ => rfl
      | ⟨1, _⟩ => rfl
      | ⟨2, _⟩ => rfl
    rw [out_7 (fun k => X ⟨t.val * 2 + k, lt0 t k⟩) _ _ _ _ _ _ _ (fun k r l => (blk0_0 V c t k r l).trans (h0 _ r l))
      (fun l v => (blk0_2 V c t l v).trans (h2 l v)) (fun l v => (blk0_3 V c t l v).trans (h3 l v))
      (fun l v => (blk0_4 V c t l v).trans (h4 l v)) (fun l v => (blk0_5 V c t l v).trans (h5 l v)) (fun l v => (blk0_6 V c t l v).trans (h6 l v)) j0 j1 j2]
    show planes foldReE X (ix3 ⟨t.val * 2 + j0, lt0 t j0⟩ j1 j2) = planes foldReE X _
    refine congrArg (planes foldReE X) ?_
    funext a
    match a with
    | ⟨0, _⟩ => exact Fin.ext (by show t.val * 2 + j0 = win0_7.index t 0 * 2 + 1 * (j0 : ℕ); omega)
    | ⟨1, _⟩ => exact Fin.ext (by show (j1 : ℕ) = win0_7.index t 1 * 272 + 1 * (j1 : ℕ); omega)
    | ⟨2, _⟩ => exact Fin.ext (by show (j2 : ℕ) = win0_7.index t 2 * 640 + 1 * (j2 : ℕ); omega)

include h0 h2 h3 h4 h5 h6 in
/-- Region 0 leaves output 8 at its planes. -/
theorem arr0_8 : (dat0 V c).arrAt 8 cfg0.N = planes foldImE X := by
  refine (dat0 V c).arrAt_eq_of_cover 8 (planes foldImE X) (fun t _ => ?_) cover0_w8
  · show (cfg0.win 8).cut (grid0.coords t) ((dat0 V c).after 8 t) = _
    rw [after0_8]
    funext j
    idx_vars j
    obtain ⟨e0, e1, e2⟩ := at0_8 t
    refine Eq.trans (b := out0_8 (iblk0 V c 0 t) (iblk0 V c 1 t) (iblk0 V c 2 t) (iblk0 V c 3 t) (iblk0 V c 4 t) (iblk0 V c 5 t) (iblk0 V c 6 t) (ix3 j0 j1 j2)) ?_ ?_
    · show out0_8 _ _ _ _ _ _ _ _ = _
      refine congrArg _ ?_
      funext a
      match a with
      | ⟨0, _⟩ => rfl
      | ⟨1, _⟩ => rfl
      | ⟨2, _⟩ => rfl
    rw [out_8 (fun k => X ⟨t.val * 2 + k, lt0 t k⟩) _ _ _ _ _ _ _ (fun k r l => (blk0_0 V c t k r l).trans (h0 _ r l))
      (fun l v => (blk0_2 V c t l v).trans (h2 l v)) (fun l v => (blk0_3 V c t l v).trans (h3 l v))
      (fun l v => (blk0_4 V c t l v).trans (h4 l v)) (fun l v => (blk0_5 V c t l v).trans (h5 l v)) (fun l v => (blk0_6 V c t l v).trans (h6 l v)) j0 j1 j2]
    show planes foldImE X (ix3 ⟨t.val * 2 + j0, lt0 t j0⟩ j1 j2) = planes foldImE X _
    refine congrArg (planes foldImE X) ?_
    funext a
    match a with
    | ⟨0, _⟩ => exact Fin.ext (by show t.val * 2 + j0 = win0_8.index t 0 * 2 + 1 * (j0 : ℕ); omega)
    | ⟨1, _⟩ => exact Fin.ext (by show (j1 : ℕ) = win0_8.index t 1 * 272 + 1 * (j1 : ℕ); omega)
    | ⟨2, _⟩ => exact Fin.ext (by show (j2 : ℕ) = win0_8.index t 2 * 640 + 1 * (j2 : ℕ); omega)

include h1 h2 h3 h4 h5 h6 in
/-- Region 0 leaves output 9 at its planes. -/
theorem arr0_9 : (dat0 V c).arrAt 9 cfg0.N = planes foldReE Y := by
  refine (dat0 V c).arrAt_eq_of_cover 9 (planes foldReE Y) (fun t _ => ?_) cover0_w9
  · show (cfg0.win 9).cut (grid0.coords t) ((dat0 V c).after 9 t) = _
    rw [after0_9]
    funext j
    idx_vars j
    obtain ⟨e0, e1, e2⟩ := at0_9 t
    refine Eq.trans (b := out0_9 (iblk0 V c 0 t) (iblk0 V c 1 t) (iblk0 V c 2 t) (iblk0 V c 3 t) (iblk0 V c 4 t) (iblk0 V c 5 t) (iblk0 V c 6 t) (ix3 j0 j1 j2)) ?_ ?_
    · show out0_9 _ _ _ _ _ _ _ _ = _
      refine congrArg _ ?_
      funext a
      match a with
      | ⟨0, _⟩ => rfl
      | ⟨1, _⟩ => rfl
      | ⟨2, _⟩ => rfl
    rw [out_9 (fun k => Y ⟨t.val * 2 + k, lt0 t k⟩) _ _ _ _ _ _ _ (fun k r l => (blk0_1 V c t k r l).trans (h1 _ r l))
      (fun l v => (blk0_2 V c t l v).trans (h2 l v)) (fun l v => (blk0_3 V c t l v).trans (h3 l v))
      (fun l v => (blk0_4 V c t l v).trans (h4 l v)) (fun l v => (blk0_5 V c t l v).trans (h5 l v)) (fun l v => (blk0_6 V c t l v).trans (h6 l v)) j0 j1 j2]
    show planes foldReE Y (ix3 ⟨t.val * 2 + j0, lt0 t j0⟩ j1 j2) = planes foldReE Y _
    refine congrArg (planes foldReE Y) ?_
    funext a
    match a with
    | ⟨0, _⟩ => exact Fin.ext (by show t.val * 2 + j0 = win0_9.index t 0 * 2 + 1 * (j0 : ℕ); omega)
    | ⟨1, _⟩ => exact Fin.ext (by show (j1 : ℕ) = win0_9.index t 1 * 272 + 1 * (j1 : ℕ); omega)
    | ⟨2, _⟩ => exact Fin.ext (by show (j2 : ℕ) = win0_9.index t 2 * 640 + 1 * (j2 : ℕ); omega)

include h1 h2 h3 h4 h5 h6 in
/-- Region 0 leaves output 10 at its planes. -/
theorem arr0_10 : (dat0 V c).arrAt 10 cfg0.N = planes foldImE Y := by
  refine (dat0 V c).arrAt_eq_of_cover 10 (planes foldImE Y) (fun t _ => ?_) cover0_w10
  · show (cfg0.win 10).cut (grid0.coords t) ((dat0 V c).after 10 t) = _
    rw [after0_10]
    funext j
    idx_vars j
    obtain ⟨e0, e1, e2⟩ := at0_10 t
    refine Eq.trans (b := out0_10 (iblk0 V c 0 t) (iblk0 V c 1 t) (iblk0 V c 2 t) (iblk0 V c 3 t) (iblk0 V c 4 t) (iblk0 V c 5 t) (iblk0 V c 6 t) (ix3 j0 j1 j2)) ?_ ?_
    · show out0_10 _ _ _ _ _ _ _ _ = _
      refine congrArg _ ?_
      funext a
      match a with
      | ⟨0, _⟩ => rfl
      | ⟨1, _⟩ => rfl
      | ⟨2, _⟩ => rfl
    rw [out_10 (fun k => Y ⟨t.val * 2 + k, lt0 t k⟩) _ _ _ _ _ _ _ (fun k r l => (blk0_1 V c t k r l).trans (h1 _ r l))
      (fun l v => (blk0_2 V c t l v).trans (h2 l v)) (fun l v => (blk0_3 V c t l v).trans (h3 l v))
      (fun l v => (blk0_4 V c t l v).trans (h4 l v)) (fun l v => (blk0_5 V c t l v).trans (h5 l v)) (fun l v => (blk0_6 V c t l v).trans (h6 l v)) j0 j1 j2]
    show planes foldImE Y (ix3 ⟨t.val * 2 + j0, lt0 t j0⟩ j1 j2) = planes foldImE Y _
    refine congrArg (planes foldImE Y) ?_
    funext a
    match a with
    | ⟨0, _⟩ => exact Fin.ext (by show t.val * 2 + j0 = win0_10.index t 0 * 2 + 1 * (j0 : ℕ); omega)
    | ⟨1, _⟩ => exact Fin.ext (by show (j1 : ℕ) = win0_10.index t 1 * 272 + 1 * (j1 : ℕ); omega)
    | ⟨2, _⟩ => exact Fin.ext (by show (j2 : ℕ) = win0_10.index t 2 * 640 + 1 * (j2 : ℕ); omega)

end Arrays

end Cert.Proof

end
-- ==== Proof.Bins.lean ====
module

public import proofs.«01_k».proof.Proof.Planes

@[expose] public section

noncomputable section

namespace Cert.Proof

open Idealize.ShloMosaic Cert.KernelIdeal Cert.KernelIdeal.Gen
open scoped BigOperators

/-- A three-axis rectangle from the origin. -/
theorem origin3 : (![0, 0, 0] : Fin 3 → ℕ) = fun _ => 0 := funext fun a => by fin_cases a <;> rfl

/-- The segment of every column of a row (the row given by its distance `w` from the centre), against the segment numbers. -/
def pick (w : BitVec 32) : FVec Ideal S640x256 .f32 :=
  sitofp .f32 (extui 32 (cmpi .eq (broadcastTo S640x256 (fptosi 32 (subf (roundeven (sqrt (addf (broadcast S640x1
    (Scalar.mulf (F := Ideal) (φ := .f32) (Scalar.sitofp .f32 w) (Scalar.sitofp .f32 w))) (k1_pay3 (F := Ideal)))))
    (broadcast S640x1 (Scalar.ofBits (F := Ideal) .f32 0x3F800000#32)))) broadcasts_S640x1_S640x256)
    (iota .tc S640x256 32 [1] iota_S640x256_d1_w32)) natLt_1_32)

/-- A line of the forty-eight images, as a matrix. -/
def mat (a : Vec Ideal S48x1x640 .f32) : FVec Ideal S48x640 .f32 := shapeCast S48x640 a shapeCasts_S48x1x640_S48x640

/-- One row's three products, binned and added on. -/
def rowBins (acc : FVec Ideal S144x256 .f32) (s : FVec Ideal S640x256 .f32) (a b p q : Vec Ideal S48x1x640 .f32) : FVec Ideal S144x256 .f32 :=
  addf acc (matmul dot_S144x640_S640x256_S144x256_1_0_0_1_n_n none (concatenate S144x640 0
    [⟨S48x640, addf (mulf (mat a) (mat p)) (mulf (mat b) (mat q))⟩, ⟨S48x640, addf (mulf (mat a) (mat a)) (mulf (mat b) (mat b))⟩,
      ⟨S48x640, addf (mulf (mat p) (mat p)) (mulf (mat q) (mat q))⟩] concatenates_S48x640_S48x640_S48x640_S144x640_d0) s
    (constant (F := Ideal) S144x256 .f32 0x00000000#32))

/-- The row number the point's block starts at, as the kernel's word. -/
def base (i : grid1.Coords) : BitVec 32 :=
  Scalar.muli (Scalar.addi (Scalar.muli (BitVec.ofNat 32 (i 0).val) 17#32) (BitVec.ofNat 32 (i 1).val)) 8#32

/-- The distance from the centre of row `k` of a block. -/
def away (i : grid1.Coords) (k : BitVec 32) : BitVec 32 := Scalar.subi 256#32 (Scalar.addi (base i) k)

/-- The eight rows of a block, binned from nothing. -/
def blockBins (i : grid1.Coords) (x0 x1 x2 x3 : Vec Ideal S48x8x640 .f32) : FVec Ideal S144x256 .f32 :=
  rowBins (rowBins (rowBins (rowBins (rowBins (rowBins (rowBins (rowBins (k1_pay4 (F := Ideal))
    (pick (away i 0#32)) (View.ld x0 (Rect.unit ![0, 0, 0] ![48, 1, 640] inb_S48x8x640_S48x1x640_0_0_0)) (View.ld x1 (Rect.unit ![0, 0, 0] ![48, 1, 640] inb_S48x8x640_S48x1x640_0_0_0)) (View.ld x2 (Rect.unit ![0, 0, 0] ![48, 1, 640] inb_S48x8x640_S48x1x640_0_0_0)) (View.ld x3 (Rect.unit ![0, 0, 0] ![48, 1, 640] inb_S48x8x640_S48x1x640_0_0_0)))
    (pick (away i 1#32)) (View.ld x0 (Rect.unit ![0, 1, 0] ![48, 1, 640] inb_S48x8x640_S48x1x640_0_1_0)) (View.ld x1 (Rect.unit ![0, 1, 0] ![48, 1, 640] inb_S48x8x640_S48x1x640_0_1_0)) (View.ld x2 (Rect.unit ![0, 1, 0] ![48, 1, 640] inb_S48x8x640_S48x1x640_0_1_0)) (View.ld x3 (Rect.unit ![0, 1, 0] ![48, 1, 640] inb_S48x8x640_S48x1x640_0_1_0)))
    (pick (away i 2#32)) (View.ld x0 (Rect.unit ![0, 2, 0] ![48, 1, 640] inb_S48x8x640_S48x1x640_0_2_0)) (View.ld x1 (Rect.unit ![0, 2, 0] ![48, 1, 640] inb_S48x8x640_S48x1x640_0_2_0)) (View.ld x2 (Rect.unit ![0, 2, 0] ![48, 1, 640] inb_S48x8x640_S48x1x640_0_2_0)) (View.ld x3 (Rect.unit ![0, 2, 0] ![48, 1, 640] inb_S48x8x640_S48x1x640_0_2_0)))
    (pick (away i 3#32)) (View.ld x0 (Rect.unit ![0, 3, 0] ![48, 1, 640] inb_S48x8x640_S48x1x640_0_3_0)) (View.ld x1 (Rect.unit ![0, 3, 0] ![48, 1, 640] inb_S48x8x640_S48x1x640_0_3_0)) (View.ld x2 (Rect.unit ![0, 3, 0] ![48, 1, 640] inb_S48x8x640_S48x1x640_0_3_0)) (View.ld x3 (Rect.unit ![0, 3, 0] ![48, 1, 640] inb_S48x8x640_S48x1x640_0_3_0)))
    (pick (away i 4#32)) (View.ld x0 (Rect.unit ![0, 4, 0] ![48, 1, 640] inb_S48x8x640_S48x1x640_0_4_0)) (View.ld x1 (Rect.unit ![0, 4, 0] ![48, 1, 640] inb_S48x8x640_S48x1x640_0_4_0)) (View.ld x2 (Rect.unit ![0, 4, 0] ![48, 1, 640] inb_S48x8x640_S48x1x640_0_4_0)) (View.ld x3 (Rect.unit ![0, 4, 0] ![48, 1, 640] inb_S48x8x640_S48x1x640_0_4_0)))
    (pick (away i 5#32)) (View.ld x0 (Rect.unit ![0, 5, 0] ![48, 1, 640] inb_S48x8x640_S48x1x640_0_5_0)) (View.ld x1 (Rect.unit ![0, 5, 0] ![48, 1, 640] inb_S48x8x640_S48x1x640_0_5_0)) (View.ld x2 (Rect.unit ![0, 5, 0] ![48, 1, 640] inb_S48x8x640_S48x1x640_0_5_0)) (View.ld x3 (Rect.unit ![0, 5, 0] ![48, 1, 640] inb_S48x8x640_S48x1x640_0_5_0)))
    (pick (away i 6#32)) (View.ld x0 (Rect.unit ![0, 6, 0] ![48, 1, 640] inb_S48x8x640_S48x1x640_0_6_0)) (View.ld x1 (Rect.unit ![0, 6, 0] ![48, 1, 640] inb_S48x8x640_S48x1x640_0_6_0)) (View.ld x2 (Rect.unit ![0, 6, 0] ![48, 1, 640] inb_S48x8x640_S48x1x640_0_6_0)) (View.ld x3 (Rect.unit ![0, 6, 0] ![48, 1, 640] inb_S48x8x640_S48x1x640_0_6_0)))
    (pick (away i 7#32)) (View.ld x0 (Rect.unit ![0, 7, 0] ![48, 1, 640] inb_S48x8x640_S48x1x640_0_7_0)) (View.ld x1 (Rect.unit ![0, 7, 0] ![48, 1, 640] inb_S48x8x640_S48x1x640_0_7_0)) (View.ld x2 (Rect.unit ![0, 7, 0] ![48, 1, 640] inb_S48x8x640_S48x1x640_0_7_0)) (View.ld x3 (Rect.unit ![0, 7, 0] ![48, 1, 640] inb_S48x8x640_S48x1x640_0_7_0))

/-- A point adds its block's bins to what the buffer held. -/
def addBins (i : grid1.Coords) (x0 x1 x2 x3 : Vec Ideal S48x8x640 .f32) (xo : Vec Ideal S1x144x256 .f32) : Vec Ideal S1x144x256 .f32 :=
  addf (shapeCast S1x144x256 xo shapeCasts_S1x144x256_S1x144x256) (shapeCast S1x144x256 (blockBins i x0 x1 x2 x3) shapeCasts_S144x256_S1x144x256)

/-- A point that is not the first of its half adds its block's bins to what the buffer held. -/
theorem leave_B (c : Dev nD) (i : grid1.Coords) (a2 : Memref sig .tc .vmem S48x8x640 .f32) (h2 : a2.IsWhole) (a3 : Memref sig .tc .vmem S48x8x640 .f32)
    (h3 : a3.IsWhole) (a4 : Memref sig .tc .vmem S48x8x640 .f32) (h4 : a4.IsWhole) (a5 : Memref sig .tc .vmem S48x8x640 .f32) (h5 : a5.IsWhole)
    (a6 : Memref sig .tc .vmem S1x144x256 .f32) (h6 : a6.IsWhole) (hc : ¬cond1_0 i)
    (x0 x1 x2 x3 : Vec Ideal S48x8x640 .f32) (xo : Vec Ideal S1x144x256 .f32) :
    out1_B_4 c i a2 h2 a3 h3 a4 h4 a5 h5 a6 h6 hc x0 x1 x2 x3 xo = addBins i x0 x1 x2 x3 xo := by
  unfold out1_B_4
  rw [View.read_writes_eq_canon _ _ _ (cover1_B_4 c i a2 h2 a3 h3 a4 h4 a5 h5 a6 h6 hc x0 x1 x2 x3 xo)]
  unfold kernelRun1_B
  dsimp only
  sl_unfold_words
  rw [View.canon_unit_zero origin3]
  simp only [View.readAt_eq_ld, h2.read_unread, h3.read_unread, h4.read_unread, h5.read_unread, h6.read_unread, View.ld_unit_zero (S := S1x144x256) origin3]
  rfl

/-- The first point of a half starts from zero. -/
theorem leave_A (c : Dev nD) (i : grid1.Coords) (a2 : Memref sig .tc .vmem S48x8x640 .f32) (h2 : a2.IsWhole) (a3 : Memref sig .tc .vmem S48x8x640 .f32)
    (h3 : a3.IsWhole) (a4 : Memref sig .tc .vmem S48x8x640 .f32) (h4 : a4.IsWhole) (a5 : Memref sig .tc .vmem S48x8x640 .f32) (h5 : a5.IsWhole)
    (a6 : Memref sig .tc .vmem S1x144x256 .f32) (h6 : a6.IsWhole) (hc : cond1_0 i)
    (x0 x1 x2 x3 : Vec Ideal S48x8x640 .f32) :
    out1_A_4 c i a2 h2 a3 h3 a4 h4 a5 h5 a6 h6 hc x0 x1 x2 x3 = addBins i x0 x1 x2 x3 (k1_pay1 (F := Ideal)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x144x256) origin3, View.readCov_unit_zero (S := S1x144x256) _ origin3]
  simp only [View.readAt_eq_ld, h2.read_unread, h3.read_unread, h4.read_unread, h5.read_unread]
  rfl

/-- A distance word's square, in the reals. -/
def colWord (c : Fin 640) : BitVec 32 :=
  Scalar.select (IntOp.cmpi CmpIPredicate.slt (BitVec.ofNat 32 c) 320#32) (IntOp.subi (256#32) (BitVec.ofNat 32 c)) (IntOp.subi (576#32) (BitVec.ofNat 32 c))

/-- The column's distance from the centre. -/
theorem colWord_sq : ∀ c : Fin 640, (colWord c).toInt * (colWord c).toInt = (256 - (fcol c : ℤ)) * (256 - (fcol c : ℤ)) := by decide +kernel

/-- A row's distance from the centre. -/
theorem away_toInt : ∀ t : Fin 34, ∀ k : Fin 8, (away (grid1.coords (t.cast N_1.symm)) (BitVec.ofNat 32 k)).toInt = 256 - (8 * t.val + k.val : ℤ) := by
  decide +kernel

/-- The picking matrix at `(c, b)`: whether column `c` of row `u` is in segment `b`. -/
theorem pick_apply (w : BitVec 32) (u : ℕ) (hu : w.toInt = 256 - (u : ℤ)) (c : Fin 640) (b : Fin 256) :
    pick w (ix2 c b) = ((hit u c b : ℝ) : EReal) := by
  unfold hit
  pointwise [pick, k1_pay3]
  show FloatOps.sitofp FTy.f32 (BitVec.setWidth 32 (IntOp.cmpi CmpIPredicate.eq (Ideal.fptosi 32
    (Ideal.liftRound Ideal.roundHalfEven (Ideal.sqrt (((w.toInt : ℝ) : EReal) * ((w.toInt : ℝ) : EReal)
      + (((colWord c).toInt : ℝ) : EReal) * (((colWord c).toInt : ℝ) : EReal))) - 1)) (BitVec.ofNat 32 b))) = _
  have hq : ((colWord c).toInt : ℝ) * ((colWord c).toInt : ℝ) = ((fcol c : ℝ) - 256) * ((fcol c : ℝ) - 256) := by
    have := congrArg (fun z : ℤ => (z : ℝ)) (colWord_sq c)
    push_cast at this
    rw [this]; ring
  have hw : (w.toInt : ℝ) * (w.toInt : ℝ) = ((u : ℝ) - 256) * ((u : ℝ) - 256) := by rw [hu]; push_cast; ring
  have hs : Ideal.fptosi 32 (Ideal.liftRound Ideal.roundHalfEven (Ideal.sqrt (((w.toInt : ℝ) : EReal) * ((w.toInt : ℝ) : EReal)
      + (((colWord c).toInt : ℝ) : EReal) * (((colWord c).toInt : ℝ) : EReal))) - 1) = seg u (fcol c) := by
    rw [← EReal.coe_mul, ← EReal.coe_mul, ← EReal.coe_add, hw, hq, Ideal.sqrt_coe,
      if_neg (not_lt.2 (add_nonneg (mul_self_nonneg _) (mul_self_nonneg _))), Ideal.liftRound_coe, ← EReal.coe_one, ← EReal.coe_sub]
    rfl
  rw [hs, WordCmp.cmpi_eq_eq]
  by_cases h : seg u (fcol c) = BitVec.ofNat 32 b
  · rw [if_pos h, decide_eq_true h]
    show (((1#32 : BitVec 32).toInt : ℝ) : EReal) = _
    norm_num
  · rw [if_neg h, decide_eq_false h]
    show (((0#32 : BitVec 32).toInt : ℝ) : EReal) = _
    norm_num

/-- The first image of each of the hundred and forty-four products. -/
def lft (X Y : Fin 48 → Fin 512 → Fin 512 → EReal) (r : Fin 144) : Fin 512 → Fin 512 → EReal :=
  if h : (r : ℕ) < 48 then X ⟨r, h⟩ else if h : (r : ℕ) - 48 < 48 then X ⟨(r : ℕ) - 48, h⟩ else Y ⟨(r : ℕ) - 48 - 48, by omega⟩

/-- The second image of each of the hundred and forty-four products. -/
def rgt (X Y : Fin 48 → Fin 512 → Fin 512 → EReal) (r : Fin 144) : Fin 512 → Fin 512 → EReal :=
  if h : (r : ℕ) < 48 then Y ⟨r, h⟩ else if h : (r : ℕ) - 48 < 48 then X ⟨(r : ℕ) - 48, h⟩ else Y ⟨(r : ℕ) - 48 - 48, by omega⟩

/-- A row's bins at one product and one segment, over any line of planes. -/
theorem rowBins_apply (acc : FVec Ideal S144x256 .f32) (s : FVec Ideal S640x256 .f32) (a b p q : Vec Ideal S48x1x640 .f32) (r : Fin 144) (e : Fin 256) :
    rowBins acc s a b p q (ix2 r e) = acc (ix2 r e) + ∑ x : Fin 640,
      (if h : (r : ℕ) < 48 then a (ix3 ⟨r, h⟩ 0 x) * p (ix3 ⟨r, h⟩ 0 x) + b (ix3 ⟨r, h⟩ 0 x) * q (ix3 ⟨r, h⟩ 0 x)
        else if h : (r : ℕ) - 48 < 48 then a (ix3 ⟨(r : ℕ) - 48, h⟩ 0 x) * a (ix3 ⟨(r : ℕ) - 48, h⟩ 0 x) + b (ix3 ⟨(r : ℕ) - 48, h⟩ 0 x) * b (ix3 ⟨(r : ℕ) - 48, h⟩ 0 x)
        else p (ix3 ⟨(r : ℕ) - 48 - 48, by omega⟩ 0 x) * p (ix3 ⟨(r : ℕ) - 48 - 48, by omega⟩ 0 x)
          + q (ix3 ⟨(r : ℕ) - 48 - 48, by omega⟩ 0 x) * q (ix3 ⟨(r : ℕ) - 48 - 48, by omega⟩ 0 x)) * s (ix2 x e) := by
  pointwise [rowBins, mat]

/-- A row's bins, by the images. -/
theorem rowBins_real (X Y : Fin 48 → Fin 512 → Fin 512 → EReal) (A : EReal) (acc : FVec Ideal S144x256 .f32) (w : BitVec 32) (u : ℕ) (hu : w.toInt = 256 - (u : ℤ))
    (a b p q : Vec Ideal S48x1x640 .f32)
    (ha : ∀ (k : Fin 48) (c : Fin 640), a (ix3 k 0 c) = foldReE (X k) u c * ((wgt u c : ℝ) : EReal))
    (hb : ∀ (k : Fin 48) (c : Fin 640), b (ix3 k 0 c) = foldImE (X k) u c * ((wgt u c : ℝ) : EReal))
    (hp : ∀ (k : Fin 48) (c : Fin 640), p (ix3 k 0 c) = foldReE (Y k) u c * ((wgt u c : ℝ) : EReal))
    (hq : ∀ (k : Fin 48) (c : Fin 640), q (ix3 k 0 c) = foldImE (Y k) u c * ((wgt u c : ℝ) : EReal))
    (r : Fin 144) (e : Fin 256) (hacc : acc (ix2 r e) = A) :
    rowBins acc (pick w) a b p q (ix2 r e) = A + line (lft X Y r) (rgt X Y r) u e := by
  rw [rowBins_apply, hacc]
  refine congrArg _ ?_
  unfold line
  rw [Finset.sum_range]
  refine Finset.sum_congr rfl fun c _ => ?_
  rw [pick_apply w u hu c e]
  refine congrArg (· * _) ?_
  unfold lft rgt
  split_ifs <;> simp only [ha, hb, hp, hq]

/-- A line of a block. -/
theorem ld_line (x : Vec Ideal S48x8x640 .f32) (j : ℕ) (hj : j < 8) (h : ∀ a, (![0, j, 0] : Fin 3 → ℕ) a + (![48, 1, 640] : Fin 3 → ℕ) a ≤ S48x8x640.size a)
    (k : Fin 48) (c : Fin 640) : View.ld x (Rect.unit ![0, j, 0] ![48, 1, 640] h) (ix3 k 0 c) = x (ix3 k ⟨j, hj⟩ c) := by
  show x _ = x _
  refine congrArg x ?_
  funext a
  match a with
  | ⟨0, _⟩ => exact Fin.ext (by show 0 + 1 * (k : ℕ) = k; omega)
  | ⟨1, _⟩ => exact Fin.ext (by show j + 1 * 0 = j; omega)
  | ⟨2, _⟩ => exact Fin.ext (by show 0 + 1 * (c : ℕ) = c; omega)

/-- A block's bins, by the images: its eight rows'. -/
theorem blockBins_real (X Y : Fin 48 → Fin 512 → Fin 512 → EReal) (t : Fin 34) (x0 x1 x2 x3 : Vec Ideal S48x8x640 .f32)
    (h0 : ∀ (k : Fin 48) (j : Fin 8) (c : Fin 640), x0 (ix3 k j c) = foldReE (X k) (8 * t.val + j.val : ℕ) c * ((wgt (8 * t.val + j.val : ℕ) c : ℝ) : EReal))
    (h1 : ∀ (k : Fin 48) (j : Fin 8) (c : Fin 640), x1 (ix3 k j c) = foldImE (X k) (8 * t.val + j.val : ℕ) c * ((wgt (8 * t.val + j.val : ℕ) c : ℝ) : EReal))
    (h2 : ∀ (k : Fin 48) (j : Fin 8) (c : Fin 640), x2 (ix3 k j c) = foldReE (Y k) (8 * t.val + j.val : ℕ) c * ((wgt (8 * t.val + j.val : ℕ) c : ℝ) : EReal))
    (h3 : ∀ (k : Fin 48) (j : Fin 8) (c : Fin 640), x3 (ix3 k j c) = foldImE (Y k) (8 * t.val + j.val : ℕ) c * ((wgt (8 * t.val + j.val : ℕ) c : ℝ) : EReal))
    (r : Fin 144) (e : Fin 256) :
    blockBins (grid1.coords (t.cast N_1.symm)) x0 x1 x2 x3 (ix2 r e)
      = ∑ j ∈ Finset.range 8, line (lft X Y r) (rgt X Y r) (8 * t.val + j) e := by
  have step : ∀ (j : ℕ) (hj : j < 8) (h : ∀ a, (![0, j, 0] : Fin 3 → ℕ) a + (![48, 1, 640] : Fin 3 → ℕ) a ≤ S48x8x640.size a) (A : EReal) (acc : FVec Ideal S144x256 .f32),
      acc (ix2 r e) = A →
      rowBins acc (pick (away (grid1.coords (t.cast N_1.symm)) (BitVec.ofNat 32 j))) (View.ld x0 (Rect.unit ![0, j, 0] ![48, 1, 640] h))
        (View.ld x1 (Rect.unit ![0, j, 0] ![48, 1, 640] h)) (View.ld x2 (Rect.unit ![0, j, 0] ![48, 1, 640] h)) (View.ld x3 (Rect.unit ![0, j, 0] ![48, 1, 640] h)) (ix2 r e)
        = A + line (lft X Y r) (rgt X Y r) (8 * t.val + j) e := fun j hj h A acc hacc =>
    rowBins_real X Y A acc _ (8 * t.val + j) (by have := away_toInt t ⟨j, hj⟩; push_cast; exact this) _ _ _ _
      (fun k c => (ld_line x0 j hj h k c).trans (h0 k ⟨j, hj⟩ c)) (fun k c => (ld_line x1 j hj h k c).trans (h1 k ⟨j, hj⟩ c))
      (fun k c => (ld_line x2 j hj h k c).trans (h2 k ⟨j, hj⟩ c)) (fun k c => (ld_line x3 j hj h k c).trans (h3 k ⟨j, hj⟩ c)) r e hacc
  have z : (k1_pay4 (F := Ideal)) (ix2 r e) = (0 : EReal) := by pointwise [k1_pay4]
  have h := step 7 (by omega) inb_S48x8x640_S48x1x640_0_7_0 _ _ (step 6 (by omega) inb_S48x8x640_S48x1x640_0_6_0 _ _ (step 5 (by omega) inb_S48x8x640_S48x1x640_0_5_0 _ _
    (step 4 (by omega) inb_S48x8x640_S48x1x640_0_4_0 _ _ (step 3 (by omega) inb_S48x8x640_S48x1x640_0_3_0 _ _ (step 2 (by omega) inb_S48x8x640_S48x1x640_0_2_0 _ _
    (step 1 (by omega) inb_S48x8x640_S48x1x640_0_1_0 _ _ (step 0 (by omega) inb_S48x8x640_S48x1x640_0_0_0 _ _ z)))))))
  refine Eq.trans h ?_
  simp only [Finset.sum_range_succ, Finset.sum_range_zero]

end Cert.Proof

end
-- ==== Proof.Sums.lean ====
module

public import proofs.«01_k».proof.Proof.Bins

@[expose] public section

noncomputable section

namespace Cert.Proof

open Idealize.ShloMosaic Cert.KernelIdeal Cert.KernelIdeal.Gen
open scoped BigOperators

variable (V : (c : Dev nD) → (b : Ref sig .tc) → Buf (Elt Ideal) ((c.tc : Thread nD τ).loc b))

/-- Row `j` of point `t`'s block is one of the two hundred and seventy-two. -/
theorem lt1 (t : Fin cfg1.N) (j : Fin 8) : 8 * t.val + j < 272 := by have := t.isLt; have : cfg1.N = 34 := N_1; omega

/-- Window 0 of region 1 is at row block `t` of its array at point `t`. -/
theorem at1_0 : ∀ t : Fin cfg1.N, win1_0.index t 0 = 0 ∧ win1_0.index t 1 = t.val ∧ win1_0.index t 2 = 0 := by decide +kernel

/-- A row of window 0's block, in its array. -/
theorem blk1_0 (c : Dev nD) (t : Fin cfg1.N) (k : Fin 48) (j : Fin 8) (l : Fin 640) :
    (iblk1 V c 0 t : Vec Ideal S48x8x640 .f32) (ix3 k j l) = (V c main_v84_0 : Vec Ideal S48x272x640 .f32) (ix3 k ⟨8 * t.val + j, lt1 t j⟩ l) := by
  unfold iblk1
  show (V c main_v84_0 : Vec Ideal S48x272x640 .f32) _ = _
  refine congrArg (V c main_v84_0 : Vec Ideal S48x272x640 .f32) ?_
  funext a
  obtain ⟨e0, e1, e2⟩ := at1_0 t
  match a with
  | ⟨0, _⟩ => exact Fin.ext (by show win1_0.index t 0 * 48 + 1 * (k : ℕ) = k; omega)
  | ⟨1, _⟩ => exact Fin.ext (by show win1_0.index t 1 * 8 + 1 * (j : ℕ) = 8 * t.val + j; omega)
  | ⟨2, _⟩ => exact Fin.ext (by show win1_0.index t 2 * 640 + 1 * (l : ℕ) = l; omega)

/-- Window 1 of region 1 is at row block `t` of its array at point `t`. -/
theorem at1_1 : ∀ t : Fin cfg1.N, win1_1.index t 0 = 0 ∧ win1_1.index t 1 = t.val ∧ win1_1.index t 2 = 0 := by decide +kernel

/-- A row of window 1's block, in its array. -/
theorem blk1_1 (c : Dev nD) (t : Fin cfg1.N) (k : Fin 48) (j : Fin 8) (l : Fin 640) :
    (iblk1 V c 1 t : Vec Ideal S48x8x640 .f32) (ix3 k j l) = (V c main_v84_1 : Vec Ideal S48x272x640 .f32) (ix3 k ⟨8 * t.val + j, lt1 t j⟩ l) := by
  unfold iblk1
  show (V c main_v84_1 : Vec Ideal S48x272x640 .f32) _ = _
  refine congrArg (V c main_v84_1 : Vec Ideal S48x272x640 .f32) ?_
  funext a
  obtain ⟨e0, e1, e2⟩ := at1_1 t
  match a with
  | ⟨0, _⟩ => exact Fin.ext (by show win1_1.index t 0 * 48 + 1 * (k : ℕ) = k; omega)
  | ⟨1, _⟩ => exact Fin.ext (by show win1_1.index t 1 * 8 + 1 * (j : ℕ) = 8 * t.val + j; omega)
  | ⟨2, _⟩ => exact Fin.ext (by show win1_1.index t 2 * 640 + 1 * (l : ℕ) = l; omega)

/-- Window 2 of region 1 is at row block `t` of its array at point `t`. -/
theorem at1_2 : ∀ t : Fin cfg1.N, win1_2.index t 0 = 0 ∧ win1_2.index t 1 = t.val ∧ win1_2.index t 2 = 0 := by decide +kernel

/-- A row of window 2's block, in its array. -/
theorem blk1_2 (c : Dev nD) (t : Fin cfg1.N) (k : Fin 48) (j : Fin 8) (l : Fin 640) :
    (iblk1 V c 2 t : Vec Ideal S48x8x640 .f32) (ix3 k j l) = (V c main_v84_2 : Vec Ideal S48x272x640 .f32) (ix3 k ⟨8 * t.val + j, lt1 t j⟩ l) := by
  unfold iblk1
  show (V c main_v84_2 : Vec Ideal S48x272x640 .f32) _ = _
  refine congrArg (V c main_v84_2 : Vec Ideal S48x272x640 .f32) ?_
  funext a
  obtain ⟨e0, e1, e2⟩ := at1_2 t
  match a with
  | ⟨0, _⟩ => exact Fin.ext (by show win1_2.index t 0 * 48 + 1 * (k : ℕ) = k; omega)
  | ⟨1, _⟩ => exact Fin.ext (by show win1_2.index t 1 * 8 + 1 * (j : ℕ) = 8 * t.val + j; omega)
  | ⟨2, _⟩ => exact Fin.ext (by show win1_2.index t 2 * 640 + 1 * (l : ℕ) = l; omega)

/-- Window 3 of region 1 is at row block `t` of its array at point `t`. -/
theorem at1_3 : ∀ t : Fin cfg1.N, win1_3.index t 0 = 0 ∧ win1_3.index t 1 = t.val ∧ win1_3.index t 2 = 0 := by decide +kernel

/-- A row of window 3's block, in its array. -/
theorem blk1_3 (c : Dev nD) (t : Fin cfg1.N) (k : Fin 48) (j : Fin 8) (l : Fin 640) :
    (iblk1 V c 3 t : Vec Ideal S48x8x640 .f32) (ix3 k j l) = (V c main_v84_3 : Vec Ideal S48x272x640 .f32) (ix3 k ⟨8 * t.val + j, lt1 t j⟩ l) := by
  unfold iblk1
  show (V c main_v84_3 : Vec Ideal S48x272x640 .f32) _ = _
  refine congrArg (V c main_v84_3 : Vec Ideal S48x272x640 .f32) ?_
  funext a
  obtain ⟨e0, e1, e2⟩ := at1_3 t
  match a with
  | ⟨0, _⟩ => exact Fin.ext (by show win1_3.index t 0 * 48 + 1 * (k : ℕ) = k; omega)
  | ⟨1, _⟩ => exact Fin.ext (by show win1_3.index t 1 * 8 + 1 * (j : ℕ) = 8 * t.val + j; omega)
  | ⟨2, _⟩ => exact Fin.ext (by show win1_3.index t 2 * 640 + 1 * (l : ℕ) = l; omega)

/-- Window 4 of region 1 is at the half point `t` is in. -/
theorem at1_4 : ∀ t : Fin cfg1.N, win1_4.index t 0 = t.val / 17 ∧ win1_4.index t 1 = 0 ∧ win1_4.index t 2 = 0 := by decide +kernel

/-- An index of the array is in window 4's block at any point of its half. -/
theorem mem1_4 (t : Fin cfg1.N) (i : S2x144x256.Idx) (ht : t.val / 17 = (i 0 : ℕ)) : i ∈ ((cfg1.win 4).blk t).view.set := by
  show i ∈ ((View.whole main_v85).slice (win1_4.rect t)).set
  rw [View.set_slice_whole, Rect.mem_set_unit]
  obtain ⟨e0, e1, e2⟩ := at1_4 t
  have b0 : (i 0 : ℕ) < 2 := (i 0).isLt
  have b1 : (i 1 : ℕ) < 144 := (i 1).isLt
  have b2 : (i 2 : ℕ) < 256 := (i 2).isLt
  intro a
  match a with
  | ⟨0, _⟩ => show win1_4.index t 0 * 1 ≤ (i 0 : ℕ) ∧ (i 0 : ℕ) < win1_4.index t 0 * 1 + 1; omega
  | ⟨1, _⟩ => show win1_4.index t 1 * 144 ≤ (i 1 : ℕ) ∧ (i 1 : ℕ) < win1_4.index t 1 * 144 + 144; omega
  | ⟨2, _⟩ => show win1_4.index t 2 * 256 ≤ (i 2 : ℕ) ∧ (i 2 : ℕ) < win1_4.index t 2 * 256 + 256; omega

/-- Every index is in a flushed block of window 4. -/
theorem cover1_w4 (i : S2x144x256.Idx) : ∃ t : Fin cfg1.N, (cfg1.win 4).flush t = true ∧ i ∈ ((cfg1.win 4).blk t).view.set := by
  have b0 : (i 0 : ℕ) < 2 := (i 0).isLt
  have hN : cfg1.N = 34 := N_1
  refine ⟨⟨17 * (i 0 : ℕ) + 16, by omega⟩, (flush1_4 _).2 (by dsimp only; omega), mem1_4 _ i (by dsimp only; omega)⟩

section Arrays

variable (c : Dev nD) (X Y : Fin 48 → Fin 512 → Fin 512 → EReal)
  (h0 : (V c main_v84_0 : Vec Ideal S48x272x640 .f32) = planes foldReE X)
  (h1 : (V c main_v84_1 : Vec Ideal S48x272x640 .f32) = planes foldImE X)
  (h2 : (V c main_v84_2 : Vec Ideal S48x272x640 .f32) = planes foldReE Y)
  (h3 : (V c main_v84_3 : Vec Ideal S48x272x640 .f32) = planes foldImE Y)

/-- What point `t` adds to a bin. -/
def part (X Y : Fin 48 → Fin 512 → Fin 512 → EReal) (t : ℕ) (r : Fin 144) (e : Fin 256) : EReal :=
  ∑ j ∈ Finset.range 8, line (lft X Y r) (rgt X Y r) (8 * t + j) e

/-- The array region 1 is shown to leave: each half's bins. -/
def bins (X Y : Fin 48 → Fin 512 → Fin 512 → EReal) : Vec Ideal S2x144x256 .f32 := fun i =>
  ∑ s ∈ Finset.range 17, part X Y (17 * (i 0 : Fin 2) + s) (i 1) (i 2)

include h0 h1 h2 h3 in
/-- Point `t` adds its block's bins. -/
theorem add_at (t : Fin cfg1.N) (xo : Vec Ideal S1x144x256 .f32) (A : EReal) (r : Fin 144) (e : Fin 256) (hxo : xo (ix3 0 r e) = A) :
    addBins (grid1.coords t) (iblk1 V c 0 t) (iblk1 V c 1 t) (iblk1 V c 2 t) (iblk1 V c 3 t) xo (ix3 0 r e) = A + part X Y t.val r e := by
  have hb := blockBins_real X Y (t.cast N_1) (iblk1 V c 0 t) (iblk1 V c 1 t) (iblk1 V c 2 t) (iblk1 V c 3 t)
    (fun k j l => by rw [blk1_0 V c t k j l, h0]; rfl) (fun k j l => by rw [blk1_1 V c t k j l, h1]; rfl)
    (fun k j l => by rw [blk1_2 V c t k j l, h2]; rfl) (fun k j l => by rw [blk1_3 V c t k j l, h3]; rfl) r e
  have ha : addBins (grid1.coords t) (iblk1 V c 0 t) (iblk1 V c 1 t) (iblk1 V c 2 t) (iblk1 V c 3 t) xo (ix3 0 r e)
      = xo (ix3 0 r e) + blockBins (grid1.coords t) (iblk1 V c 0 t) (iblk1 V c 1 t) (iblk1 V c 2 t) (iblk1 V c 3 t) (ix2 r e) := by
    unfold addBins
    generalize blockBins (grid1.coords t) (iblk1 V c 0 t) (iblk1 V c 1 t) (iblk1 V c 2 t) (iblk1 V c 3 t) = z
    pointwise []
  rw [ha, hxo]
  exact congrArg _ hb

include h0 h1 h2 h3 in
/-- After point `n` the buffer holds its half's bins so far. -/
theorem outs1 : ∀ (n : ℕ) (hn : n < cfg1.N) (r : Fin 144) (e : Fin 256),
    outsAt1 V c n hn (ix3 0 r e) = ∑ s ∈ Finset.range (n % 17 + 1), part X Y (17 * (n / 17) + s) r e := by
  intro n
  induction n with
  | zero =>
    intro hn r e
    have hA := (outsAt1_A V c ⟨0, hn⟩ rfl).trans (leave_A ..)
    rw [show outsAt1 V c 0 hn = _ from hA, add_at V c X Y h0 h1 h2 h3 ⟨0, hn⟩ _ 0 r e (by pointwise [k1_pay1])]
    simp
  | succ n ih =>
    intro hn r e
    by_cases hz : (n + 1) % 17 = 0
    · have hA := (outsAt1_A V c ⟨n + 1, hn⟩ hz).trans (leave_A ..)
      rw [show outsAt1 V c (n + 1) hn = _ from hA, add_at V c X Y h0 h1 h2 h3 ⟨n + 1, hn⟩ _ 0 r e (by pointwise [k1_pay1]), hz]
      have : 17 * ((n + 1) / 17) = n + 1 := by omega
      simp [this]
    · have hB := (outsAt1_B V c ⟨n + 1, hn⟩ hz).trans (leave_B ..)
      refine (show outsAt1 V c (n + 1) hn (ix3 0 r e) = _ from congrFun hB _).trans ?_
      refine (add_at V c X Y h0 h1 h2 h3 ⟨n + 1, hn⟩ (outsAt1 V c n (Nat.lt_of_succ_lt hn)) _ r e (ih (Nat.lt_of_succ_lt hn) r e)).trans ?_
      rw [show (n + 1) % 17 = n % 17 + 1 by omega, show (n + 1) / 17 = n / 17 by omega, Finset.sum_range_succ _ (n % 17 + 1)]
      congr 2
      show n + 1 = _
      omega

include h0 h1 h2 h3 in
/-- Region 1 leaves its output at the bins. -/
theorem arr1_4 : (dat1 V c).arrAt 4 cfg1.N = bins X Y := by
  refine (dat1 V c).arrAt_eq_of_cover 4 (bins X Y) (fun t ht => ?_) cover1_w4
  show (cfg1.win 4).cut (grid1.coords t) ((dat1 V c).after 4 t) = _
  rw [after1_4]
  funext j
  idx_vars j
  obtain ⟨e0, e1, e2⟩ := at1_4 t
  have ht' : t.val % 17 = 16 := (flush1_4 t).1 ht
  have hj0 : j0 = 0 := Subsingleton.elim _ _
  refine Eq.trans (b := outsAt1 V c t.val t.isLt (ix3 0 j1 j2)) ?_ ?_
  · show outsAt1 V c t.val t.isLt _ = _
    refine congrArg _ ?_
    funext a
    match a with
    | ⟨0, _⟩ => exact Fin.ext (by show (j0 : ℕ) = 0; omega)
    | ⟨1, _⟩ => rfl
    | ⟨2, _⟩ => rfl
  rw [outs1 V c X Y h0 h1 h2 h3 t.val t.isLt j1 j2, ht']
  have hN : t.val / 17 < 2 := by have := t.isLt; have : cfg1.N = 34 := N_1; omega
  show bins X Y (ix3 ⟨t.val / 17, hN⟩ j1 j2) = bins X Y _
  refine congrArg (bins X Y) ?_
  funext a
  match a with
  | ⟨0, _⟩ => exact Fin.ext (by show t.val / 17 = win1_4.index t 0 * 1 + 1 * (j0 : ℕ); omega)
  | ⟨1, _⟩ => exact Fin.ext (by show (j1 : ℕ) = win1_4.index t 1 * 144 + 1 * (j1 : ℕ); omega)
  | ⟨2, _⟩ => exact Fin.ext (by show (j2 : ℕ) = win1_4.index t 2 * 256 + 1 * (j2 : ℕ); omega)

end Arrays

/-- The two halves of a product's bin are its correlation over the segment's ring. -/
theorem bins_ring (X Y : Fin 48 → Fin 512 → Fin 512 → EReal) (r : Fin 144) (e : Fin 256) :
    (∑ s ∈ Finset.range 17, part X Y (17 * 0 + s) r e) + (∑ s ∈ Finset.range 17, part X Y (17 * 1 + s) r e)
      = ringE (lft X Y r) (rgt X Y r) e := by
  show _ = ∑ u ∈ Finset.range 272, line (lft X Y r) (rgt X Y r) u e
  have h34 : (∑ s ∈ Finset.range 17, part X Y (17 * 0 + s) r e) + (∑ s ∈ Finset.range 17, part X Y (17 * 1 + s) r e)
      = ∑ s ∈ Finset.range (17 + 17), part X Y s r e := by
    rw [Finset.sum_range_add]; simp
  rw [h34]
  unfold part
  have key : ∀ (f : ℕ → EReal) (n : ℕ), ∑ s ∈ Finset.range n, ∑ j ∈ Finset.range 8, f (8 * s + j) = ∑ u ∈ Finset.range (8 * n), f u := by
    intro f n
    induction n with
    | zero => simp
    | succ n ih => rw [Finset.sum_range_succ, ih, show 8 * (n + 1) = 8 * n + 8 by ring, Finset.sum_range_add]
  exact key (fun u => line (lft X Y r) (rgt X Y r) u e) 34

end Cert.Proof

end
-- ==== Proof.Tables.lean ====
module

public import proofs.«01_k».proof.Proof.Sums
public import Idealize.ShloMosaic.Lib.StableHlo.ReadAt

@[expose] public section

noncomputable section

namespace Cert.Proof

open Idealize.ShloMosaic Cert.KernelIdeal Cert.KernelIdeal.Gen
open scoped BigOperators

/-- The batch entry of an image. -/
def batchOf (k : Fin 48) : Fin 16 := ⟨k / 3, by omega⟩

/-- The channel of an image. -/
def chanOf (k : Fin 48) : Fin 3 := ⟨k % 3, by omega⟩

/-- The number of an image of a batch entry and a channel. -/
abbrev img (b : Fin 16) (ch : Fin 3) : Fin 48 := ⟨b * 3 + ch, by omega⟩

/-- The float a small word stands for. -/
theorem flt_word (n : ℕ) (h : n < 1024) : (FloatOps.sitofp (F := Ideal) .f32 (BitVec.ofNat 32 n)) = ((n : ℝ) : EReal) := by
  show (((BitVec.ofNat 32 n).toInt : ℝ) : EReal) = _
  have : (BitVec.ofNat 32 n).toInt = (n : ℤ) := by
    rw [BitVec.toInt_eq_toNat_of_lt] <;> simp <;> omega
  rw [this]; rfl

/-- The constant 256. -/
theorem c256 : Ideal.ofBits .f32 1132462080#32 = ((256 : ℝ) : EReal) := by
  simp [Ideal.ofBits, Ideal.ieee]; norm_num [← EReal.coe_mul]
/-- The constant 320. -/
theorem c320 : Ideal.ofBits .f32 1134559232#32 = ((320 : ℝ) : EReal) := by
  simp [Ideal.ofBits, Ideal.ieee]; norm_num [← EReal.coe_mul]
/-- The constant 832. -/
theorem c832 : Ideal.ofBits .f32 1146093568#32 = ((832 : ℝ) : EReal) := by
  simp [Ideal.ofBits, Ideal.ieee]; norm_num [← EReal.coe_mul]
/-- The constant 576. -/
theorem c576 : Ideal.ofBits .f32 1141899264#32 = ((576 : ℝ) : EReal) := by
  simp [Ideal.ofBits, Ideal.ieee]; norm_num [← EReal.coe_mul]
/-- The constant 254. -/
theorem c254 : Ideal.ofBits .f32 0x437E0000#32 = ((254 : ℝ) : EReal) := by
  simp [Ideal.ofBits, Ideal.ieee]; norm_num [← EReal.coe_mul]
/-- The constant 2. -/
theorem c2 : Ideal.ofBits .f32 1073741824#32 = ((2 : ℝ) : EReal) := by
  simp [Ideal.ofBits, Ideal.ieee]; norm_num [← EReal.coe_mul]
/-- The constant -1. -/
theorem cneg : Ideal.ofBits .f32 3212836864#32 = ((-1 : ℝ) : EReal) := by
  simp [Ideal.ofBits, Ideal.ieee]; norm_num [← EReal.coe_mul]

/-- The table's angle. -/
theorem angle (u v : ℕ) (hu : u < 512) (hv : v < 512) :
    FloatOps.sitofp (F := Ideal) FTy.f32 (IntOp.remsi ArithUnit.host (IntOp.muli (BitVec.ofNat 32 u) (BitVec.ofNat 32 v)) 512#32)
      * Ideal.div (Ideal.acos (Ideal.ofBits FTy.f32 3212836864#32)) (Ideal.ofBits FTy.f32 1132462080#32) = ((ang (u * v) : ℝ) : EReal) := by
  have hw : IntOp.muli (BitVec.ofNat 32 u) (BitVec.ofNat 32 v) = BitVec.ofNat 32 (u * v) := by
    show BitVec.ofNat 32 u * BitVec.ofNat 32 v = _
    rw [BitVec.ofNat_mul]
  have hlt : u * v < 512 * 512 := Nat.mul_lt_mul'' hu hv
  have hn : (BitVec.ofNat 32 (u * v)).toNat = u * v := by simp; omega
  have hr : IntOp.remsi ArithUnit.host (BitVec.ofNat 32 (u * v)) 512#32 = BitVec.ofNat 32 ((u * v) % 512) := by
    apply BitVec.eq_of_toNat_eq
    rw [IntOp.toNat_remsi _ (by rw [hn]; omega) 512 (by norm_num) (by norm_num), hn]
    simp; omega
  rw [hw, hr, flt_word _ (by omega), cneg, c256]
  have ha : Ideal.acos ((-1 : ℝ) : EReal) = ((Real.pi : ℝ) : EReal) := by
    show (if (-1 : ℝ) ≤ -1 ∧ (-1 : ℝ) ≤ 1 then ((Real.arccos (-1) : ℝ) : EReal) else ⊥) = _
    rw [if_pos (by norm_num), Real.arccos_neg_one]
  rw [ha]
  have hd : Ideal.div ((Real.pi : ℝ) : EReal) ((256 : ℝ) : EReal) = ((Real.pi / 256 : ℝ) : EReal) := by
    simp only [Ideal.div]
    rw [if_neg (by simp)]
    rw [← EReal.coe_inv, ← EReal.coe_mul, div_eq_mul_inv]
  rw [hd, ← EReal.coe_mul]
  rfl

variable (W : Valuation τ sig (Elt Ideal))

/-- The cosine table of the first product. -/
theorem tab_cos (u : Fin 512) (v : Fin 272) : (StableHlo.after hostOps0 W (Proc.devRef .tc main_v80) : Vec Ideal S512x272 .f32) (ix2 u v) = ((cosT u v : ℝ) : EReal) := by
  after_reads_at
  rw [angle u v u.isLt (by omega)]; rfl

/-- The sine table of the first product, negated. -/
theorem tab_sin (u : Fin 512) (v : Fin 272) : (StableHlo.after hostOps0 W (Proc.devRef .tc main_v81) : Vec Ideal S512x272 .f32) (ix2 u v) = ((nsinT u v : ℝ) : EReal) := by
  after_reads_at
  rw [angle u v u.isLt (by omega)]; rfl

/-- The cosine table of the second product. -/
theorem tab_cos' (u : Fin 272) (v : Fin 512) : (StableHlo.after hostOps0 W (Proc.devRef .tc main_v82) : Vec Ideal S272x512 .f32) (ix2 u v) = ((cosT u v : ℝ) : EReal) := by
  after_reads_at
  rw [angle u v (by omega) v.isLt]; rfl

/-- The sine table of the second product, negated. -/
theorem tab_sin' (u : Fin 272) (v : Fin 512) : (StableHlo.after hostOps0 W (Proc.devRef .tc main_v83) : Vec Ideal S272x512 .f32) (ix2 u v) = ((nsinT u v : ℝ) : EReal) := by
  after_reads_at
  rw [angle u v (by omega) v.isLt]; rfl

/-- The kernel's image `k` of the inputs. -/
theorem img_x (k : Fin 48) (r l : Fin 512) : (StableHlo.after hostOps0 W (Proc.devRef .tc main_v0) : Vec Ideal S48x512x512 .f32) (ix3 k r l) = (W (Proc.devRef .tc main_arg0) : Vec Ideal S16x3x512x512 .f32) (ix4 (batchOf k) (chanOf k) r l) := by
  after_reads_at
  rfl

/-- The kernel's image `k` of the targets. -/
theorem img_y (k : Fin 48) (r l : Fin 512) : (StableHlo.after hostOps0 W (Proc.devRef .tc main_v1) : Vec Ideal S48x512x512 .f32) (ix3 k r l) = (W (Proc.devRef .tc main_arg1) : Vec Ideal S16x3x512x512 .f32) (ix4 (batchOf k) (chanOf k) r l) := by
  after_reads_at
  rfl

/-- A float's absolute value, of a real. -/
theorem absf_coe (x : ℝ) : FloatOps.absf (F := Ideal) (φ := .f32) ((x : ℝ) : EReal) = ((|x| : ℝ) : EReal) := by
  show max (x : EReal) (-(x : EReal)) = _
  rw [← EReal.coe_neg, abs_eq_max_neg]
  exact (EReal.coe_strictMono.monotone.map_max (a := x) (b := -x)).symm

/-- A choice by a decision. -/
theorem select_dec {α : Type} (p : Bool) (x y : α) : Scalar.select (BitVec.ofBool p) x y = if p then x else y := by cases p <;> rfl
/-- Both of two decisions. -/
theorem and_dec (p q : Bool) : IntOp.andi (BitVec.ofBool p) (BitVec.ofBool q) = BitVec.ofBool (p && q) := by cases p <;> cases q <;> rfl
/-- Either of two decisions. -/
theorem or_dec (p q : Bool) : IntOp.ori (BitVec.ofBool p) (BitVec.ofBool q) = BitVec.ofBool (p || q) := by cases p <;> cases q <;> rfl
/-- The larger of two reals. -/
theorem max_coe (x y : ℝ) : max (x : EReal) (y : EReal) = ((max x y : ℝ) : EReal) := (EReal.coe_strictMono.monotone.map_max (a := x) (b := y)).symm
/-- The smaller of two reals. -/
theorem min_coe (x y : ℝ) : min (x : EReal) (y : EReal) = ((min x y : ℝ) : EReal) := (EReal.coe_strictMono.monotone.map_min (a := x) (b := y)).symm
/-- The rounded radius, from the two distances. -/
theorem rad_coe (a b : ℝ) : Ideal.liftRound Ideal.roundHalfEven (Ideal.sqrt (((|a| * |a| + |b| * |b| : ℝ)) : EReal))
    = (((Ideal.roundHalfEven (Real.sqrt (a * a + b * b)) : ℤ) : ℝ) : EReal) := by
  rw [Ideal.sqrt_coe, if_neg (not_lt.2 (add_nonneg (mul_self_nonneg _) (mul_self_nonneg _))), Ideal.liftRound_coe, abs_mul_abs_self, abs_mul_abs_self]

/-- A choice between reals, by two ways of deciding the same. -/
theorem ite_coe {P Q : Prop} {iP : Decidable P} {iQ : Decidable Q} (h : P ↔ Q) {a : EReal} {b c : ℝ} (hab : a = (b : EReal)) :
    (if P then a else (c : EReal)) = ((if Q then b else c : ℝ) : EReal) := by
  by_cases hp : P
  · rw [if_pos hp, if_pos (h.1 hp), hab]
  · rw [if_neg hp, if_neg (fun q => hp (h.2 q))]

/-- The weight table: the square root of the folded multiplicity. -/
theorem tab_w (u : Fin 272) (v : Fin 640) : (StableHlo.after hostOps0 W (Proc.devRef .tc main_v79) : Vec Ideal S272x640 .f32) (ix2 u v) = ((wgt u v : ℝ) : EReal) := by
  after_reads_at
  have hf : (if (((v : ℕ) : ℝ) : EReal) < ((320 : ℝ) : EReal) then (((v : ℕ) : ℝ) : EReal) else ((832 : ℝ) : EReal) - (((v : ℕ) : ℝ) : EReal))
      = (((if (v : ℕ) < 320 then (v : ℕ) else 832 - (v : ℕ) : ℕ) : ℝ) : EReal) := by
    rw [← EReal.coe_sub]
    simp only [EReal.coe_lt_coe_iff]
    have : ((v : ℕ) : ℝ) < 320 ↔ (v : ℕ) < 320 := by norm_cast
    by_cases h : (v : ℕ) < 320
    · rw [if_pos (this.2 h), if_pos h]
    · rw [if_neg (fun h' => h (this.1 h')), if_neg h, Nat.cast_sub (by omega)]; norm_num
  simp only [flt_word _ (show (u : ℕ) < 1024 by omega), flt_word _ (show (v : ℕ) < 1024 by omega), c256, c320, c832, c576, c254, c2, hf]
  simp only [← EReal.coe_sub, absf_coe, max_coe, min_coe, ← EReal.coe_mul, ← EReal.coe_add, rad_coe]
  simp only [← EReal.coe_one, ← EReal.coe_zero, ← EReal.coe_mul, ← EReal.coe_add, ← EReal.coe_sub, EReal.coe_lt_coe_iff, EReal.coe_le_coe_iff, EReal.coe_eq_coe_iff,
    select_dec, and_dec, or_dec, ← Bool.decide_and, ← Bool.decide_or, decide_eq_true_eq]
  simp only [abs_mul_abs_self, Nat.cast_le_ofNat, Nat.cast_lt_ofNat, Nat.ofNat_lt_cast, and_assoc]
  have hnn : 0 ≤ foldTimes u v := by
    unfold foldTimes
    generalize (if (v : ℕ) < 320 then (v : ℕ) else 832 - v) = w
    split_ifs <;> norm_num
  refine (congrArg Ideal.sqrt (?_ : _ = ((foldTimes u v : ℝ) : EReal))).trans ?_
  · unfold foldTimes OnRing rad sqd far near
    generalize (if (v : ℕ) < 320 then (v : ℕ) else 832 - v) = w
    refine ite_coe (by simp only [and_assoc]) ?_
    refine Eq.trans ?_ (EReal.coe_mul _ _).symm
    exact congrArg₂ (· * ·) (ite_coe Iff.rfl rfl) (ite_coe Iff.rfl rfl)
  · rw [Ideal.sqrt_coe, if_neg (not_lt.2 hnn)]; rfl

end Cert.Proof

end
-- ==== Proof.Tail.lean ====
module

public import proofs.«01_k».proof.Proof.Tables

@[expose] public section

noncomputable section

namespace Cert.Proof

open Idealize.ShloMosaic Cert.KernelIdeal Cert.KernelIdeal.Gen
open scoped BigOperators

/-- A segment's share of the result, from a correlation and two energies. -/
def ratio (a b c : EReal) : EReal := Ideal.div (FloatOps.absf (F := Ideal) (φ := .f32) a) (Ideal.sqrt (b * c))

/-- The first 254 of 256 lanes. -/
theorem lanes (f : Fin 256 → EReal) (g : Fin 256 → EReal) :
    ∑ x : Fin 256, Scalar.select (IntOp.cmpi CmpIPredicate.slt (BitVec.ofNat 32 x) 254#32) (f x) 0 * g x
      = ∑ x : Fin 254, f (x.castLE (by norm_num)) * g (x.castLE (by norm_num)) := by
  have hs : ∀ x : Fin 256, IntOp.cmpi CmpIPredicate.slt (BitVec.ofNat 32 x) 254#32 = BitVec.ofBool (decide ((x : ℕ) < 254)) := by decide +kernel
  simp only [hs, select_dec, decide_eq_true_eq]
  rw [Fin.sum_univ_castSucc, Fin.sum_univ_castSucc]
  have h1 : ¬((Fin.last 255 : Fin 256) : ℕ) < 254 := by decide
  have h2 : ¬(((Fin.last 254).castSucc : Fin 256) : ℕ) < 254 := by decide
  rw [if_neg h1, if_neg h2, zero_mul, zero_mul, add_zero, add_zero]
  refine Finset.sum_congr rfl fun x _ => ?_
  rw [if_pos (show ((x.castSucc.castSucc : Fin 256) : ℕ) < 254 from x.isLt)]
  rfl

/-- What the last region stores, at an image. -/
theorem pay2 (v0 v2 : Vec Ideal S1x144x256 .f32) (v17 : Vec Ideal S1x256 .f32) (v23 : Vec Ideal S1x1 .f32) (k : Fin 48) (l : Fin 128) :
    k2_pay1 (F := Ideal) v0 v2 v17 v23 (ix2 k l) = (∑ x : Fin 256,
        Scalar.select (IntOp.cmpi CmpIPredicate.slt (BitVec.ofNat 32 x) 254#32)
          (ratio (v0 (ix3 0 ⟨k, by omega⟩ x) + v2 (ix3 0 ⟨k, by omega⟩ x)) (v0 (ix3 0 ⟨48 + k, by omega⟩ x) + v2 (ix3 0 ⟨48 + k, by omega⟩ x))
            (v0 (ix3 0 ⟨96 + k, by omega⟩ x) + v2 (ix3 0 ⟨96 + k, by omega⟩ x))) 0 * v17 (ix2 0 x)) + v23 (ix2 0 0) := by
  pointwise [k2_pay1, ratio]

/-- The last region's output, at an image, over the bins and the parameters. -/
theorem out2 (x0 : Vec Ideal S2x144x256 .f32) (x1 : Vec Ideal S8x256 .f32) (k : Fin 48) (l : Fin 128) :
    out2_2 x0 x1 (ix2 k l) = (∑ x : Fin 254,
          ratio (x0 (ix3 0 ⟨k, by omega⟩ ⟨x, by omega⟩) + x0 (ix3 1 ⟨k, by omega⟩ ⟨x, by omega⟩))
            (x0 (ix3 0 ⟨48 + k, by omega⟩ ⟨x, by omega⟩) + x0 (ix3 1 ⟨48 + k, by omega⟩ ⟨x, by omega⟩))
            (x0 (ix3 0 ⟨96 + k, by omega⟩ ⟨x, by omega⟩) + x0 (ix3 1 ⟨96 + k, by omega⟩ ⟨x, by omega⟩)) * x1 (ix2 0 ⟨x, by omega⟩)) + x1 (ix2 1 0) := by
  unfold out2_2
  rw [View.canon_unit_zero origin2, pay2, lanes]
  have a0 : ∀ (r : Fin 144) (e : Fin 256), View.ld x0 r2_0 (ix3 0 r e) = x0 (ix3 0 r e) := fun r e => by
    show x0 _ = x0 _
    refine congrArg x0 ?_
    funext a
    match a with
    | ⟨0, _⟩ => exact Fin.ext (by show 0 + 1 * 0 = 0; omega)
    | ⟨1, _⟩ => exact Fin.ext (by show 0 + 1 * (r : ℕ) = r; omega)
    | ⟨2, _⟩ => exact Fin.ext (by show 0 + 1 * (e : ℕ) = e; omega)
  have a1 : ∀ (r : Fin 144) (e : Fin 256), View.ld x0 r2_1 (ix3 0 r e) = x0 (ix3 1 r e) := fun r e => by
    show x0 _ = x0 _
    refine congrArg x0 ?_
    funext a
    match a with
    | ⟨0, _⟩ => exact Fin.ext (by show 1 + 1 * 0 = 1; omega)
    | ⟨1, _⟩ => exact Fin.ext (by show 0 + 1 * (r : ℕ) = r; omega)
    | ⟨2, _⟩ => exact Fin.ext (by show 0 + 1 * (e : ℕ) = e; omega)
  have a2 : ∀ (e : Fin 256), View.ld x1 r2_2 (ix2 0 e) = x1 (ix2 0 e) := fun e => by
    show x1 _ = x1 _
    refine congrArg x1 ?_
    funext a
    match a with
    | ⟨0, _⟩ => exact Fin.ext (by show 0 + 1 * 0 = 0; omega)
    | ⟨1, _⟩ => exact Fin.ext (by show 0 + 1 * (e : ℕ) = e; omega)
  have a3 : View.ld x1 r2_3 (ix2 0 0) = x1 (ix2 1 0) := by
    show x1 _ = x1 _
    refine congrArg x1 ?_
    funext a
    match a with
    | ⟨0, _⟩ => exact Fin.ext (by show 1 + 1 * 0 = 1; omega)
    | ⟨1, _⟩ => exact Fin.ext (by show 0 + 1 * 0 = 0; omega)
  simp only [a0, a1, a2]
  rw [a3]
  rfl

variable (V : (c : Dev nD) → (b : Ref sig .tc) → Buf (Elt Ideal) ((c.tc : Thread nD τ).loc b))

/-- Window 0 of region 2 is its whole array. -/
theorem at2_0 : ∀ t : Fin cfg2.N, win2_0.index t 0 = 0 ∧ win2_0.index t 1 = 0 ∧ win2_0.index t 2 = 0 := by decide +kernel
/-- Window 1 of region 2 is its whole array. -/
theorem at2_1 : ∀ t : Fin cfg2.N, win2_1.index t 0 = 0 ∧ win2_1.index t 1 = 0 := by decide +kernel
/-- Window 2 of region 2 is its whole array. -/
theorem at2_2 : ∀ t : Fin cfg2.N, win2_2.index t 0 = 0 ∧ win2_2.index t 1 = 0 := by decide +kernel

/-- Window 0's block is its array. -/
theorem blk2_0 (c : Dev nD) (t : Fin cfg2.N) : (iblk2 V c 0 t : Vec Ideal S2x144x256 .f32) = (V c main_v85 : Vec Ideal S2x144x256 .f32) := by
  unfold iblk2
  funext i
  show (V c main_v85 : Vec Ideal S2x144x256 .f32) _ = _
  refine congrArg (V c main_v85 : Vec Ideal S2x144x256 .f32) ?_
  funext a
  obtain ⟨e0, e1, e2⟩ := at2_0 t
  match a with
  | ⟨0, _⟩ => exact Fin.ext (by show win2_0.index t 0 * 2 + 1 * (i 0 : ℕ) = i 0; omega)
  | ⟨1, _⟩ => exact Fin.ext (by show win2_0.index t 1 * 144 + 1 * (i 1 : ℕ) = i 1; omega)
  | ⟨2, _⟩ => exact Fin.ext (by show win2_0.index t 2 * 256 + 1 * (i 2 : ℕ) = i 2; omega)

/-- Window 1's block is its array. -/
theorem blk2_1 (c : Dev nD) (t : Fin cfg2.N) : (iblk2 V c 1 t : Vec Ideal S8x256 .f32) = (V c main_v104 : Vec Ideal S8x256 .f32) := by
  unfold iblk2
  funext i
  show (V c main_v104 : Vec Ideal S8x256 .f32) _ = _
  refine congrArg (V c main_v104 : Vec Ideal S8x256 .f32) ?_
  funext a
  obtain ⟨e0, e1⟩ := at2_1 t
  match a with
  | ⟨0, _⟩ => exact Fin.ext (by show win2_1.index t 0 * 8 + 1 * (i 0 : ℕ) = i 0; omega)
  | ⟨1, _⟩ => exact Fin.ext (by show win2_1.index t 1 * 256 + 1 * (i 1 : ℕ) = i 1; omega)

/-- An index of the array is in window 2's block. -/
theorem mem2_2 (t : Fin cfg2.N) (i : S48x128.Idx) : i ∈ ((cfg2.win 2).blk t).view.set := by
  show i ∈ ((View.whole main_v105).slice (win2_2.rect t)).set
  rw [View.set_slice_whole, Rect.mem_set_unit]
  obtain ⟨e0, e1⟩ := at2_2 t
  have b0 : (i 0 : ℕ) < 48 := (i 0).isLt
  have b1 : (i 1 : ℕ) < 128 := (i 1).isLt
  intro a
  match a with
  | ⟨0, _⟩ => show win2_2.index t 0 * 48 ≤ (i 0 : ℕ) ∧ (i 0 : ℕ) < win2_2.index t 0 * 48 + 48; omega
  | ⟨1, _⟩ => show win2_2.index t 1 * 128 ≤ (i 1 : ℕ) ∧ (i 1 : ℕ) < win2_2.index t 1 * 128 + 128; omega

/-- Every index is in the flushed block of window 2. -/
theorem cover2_w2 (i : S48x128.Idx) : ∃ t : Fin cfg2.N, (cfg2.win 2).flush t = true ∧ i ∈ ((cfg2.win 2).blk t).view.set :=
  ⟨⟨0, by have : cfg2.N = 1 := N_2; omega⟩, flush2_2 _, mem2_2 _ i⟩

/-- Region 2 leaves its output at what its body leaves over the whole arrays. -/
theorem arr2_2 (c : Dev nD) : (dat2 V c).arrAt 2 cfg2.N = out2_2 (V c main_v85 : Vec Ideal S2x144x256 .f32) (V c main_v104 : Vec Ideal S8x256 .f32) := by
  refine (dat2 V c).arrAt_eq_of_cover 2 _ (fun t _ => ?_) cover2_w2
  show (cfg2.win 2).cut (grid2.coords t) ((dat2 V c).after 2 t) = _
  rw [after2_2, blk2_0, blk2_1]
  funext j
  obtain ⟨e0, e1⟩ := at2_2 t
  show out2_2 _ _ _ = out2_2 _ _ _
  refine congrArg _ ?_
  funext a
  match a with
  | ⟨0, _⟩ => exact Fin.ext (by show (j 0 : ℕ) = win2_2.index t 0 * 48 + 1 * (j 0 : ℕ); omega)
  | ⟨1, _⟩ => exact Fin.ext (by show (j 1 : ℕ) = win2_2.index t 1 * 128 + 1 * (j 1 : ℕ); omega)

variable (W : Valuation τ sig (Elt Ideal))

/-- The parameters' first row holds the weights of the 254 segments. -/
theorem params0 (e : Fin 254) : (StableHlo.after hostOps2 W (Proc.devRef .tc main_v104) : Vec Ideal S8x256 .f32) (ix2 0 ⟨e, by omega⟩)
    = (W (Proc.devRef .tc main_arg5) : Vec Ideal S1x255 .f32) (ix2 0 ⟨1 + e, by omega⟩) := by
  after_reads_at
  after_reads_at
  after_reads_at

/-- The parameters' second row starts with the first weight plus the bias. -/
theorem params1 : (StableHlo.after hostOps2 W (Proc.devRef .tc main_v104) : Vec Ideal S8x256 .f32) (ix2 1 0)
    = FloatOps.addf (F := Ideal) (φ := .f32) ((W (Proc.devRef .tc main_arg5) : Vec Ideal S1x255 .f32) (ix2 0 0)) ((W (Proc.devRef .tc main_arg6) : Vec Ideal S1 .f32) (ix1 0)) := by
  after_reads_at
  after_reads_at

/-- The result is the last region's first column. -/
theorem tail3 (b : Fin 16) (ch : Fin 3) : (StableHlo.after hostOps3 W (Proc.devRef .tc main_v108) : Vec Ideal S16x3x1 .f32) (ix3 b ch 0)
    = (W (Proc.devRef .tc main_v105) : Vec Ideal S48x128 .f32) (ix2 (img b ch) 0) := by
  after_reads_at

/-- The result at an image, from the segments' correlations and energies, the weights and the bias. -/
def result (X Y : Fin 48 → Fin 512 → Fin 512 → EReal) (w : Vec Ideal S1x255 .f32) (b : Vec Ideal S1 .f32) (k : Fin 48) : EReal :=
  (∑ e : Fin 254, ratio (ringE (X k) (Y k) e) (ringE (X k) (X k) e) (ringE (Y k) (Y k) e) * w (ix2 0 ⟨1 + e, by omega⟩))
    + (w (ix2 0 0) + b (ix1 0))

section Whole

variable (m : (ℓ : Loc nD τ sig) → Buf (Elt Ideal) ℓ) (ρ : Dev nD → PrngReg) (c : Dev nD) (X Y : Fin 48 → Fin 512 → Fin 512 → EReal)
  (hX : ∀ (k : Fin 48) (r l : Fin 512), (m ((c.tc : Thread nD τ).loc main_arg0) : Vec Ideal S16x3x512x512 .f32) (ix4 (batchOf k) (chanOf k) r l) = X k r l)
  (hY : ∀ (k : Fin 48) (r l : Fin 512), (m ((c.tc : Thread nD τ).loc main_arg1) : Vec Ideal S16x3x512x512 .f32) (ix4 (batchOf k) (chanOf k) r l) = Y k r l)

include hX in
/-- The images the first region reads. -/
theorem in_x (k : Fin 48) (r l : Fin 512) : (V1 m ρ c main_v0 : Vec Ideal S48x512x512 .f32) (ix3 k r l) = X k r l :=
  (img_x (W0 m ρ c) k r l).trans (hX k r l)

include hY in
/-- The targets the first region reads. -/
theorem in_y (k : Fin 48) (r l : Fin 512) : (V1 m ρ c main_v1 : Vec Ideal S48x512x512 .f32) (ix3 k r l) = Y k r l :=
  (img_y (W0 m ρ c) k r l).trans (hY k r l)

include hX hY in
/-- The bins the last region reads. -/
theorem in_bins : (V4 m ρ c main_v85 : Vec Ideal S2x144x256 .f32) = bins X Y := by
  refine (W4_of m ρ c main_v85 (by decide)).trans ((W3_arr m ρ c 4).trans ?_)
  refine arr1_4 (V2 m ρ) c X Y ?_ ?_ ?_ ?_
  · exact (W2_arr m ρ c 7).trans (arr0_7 (V1 m ρ) c X (in_x m ρ c X hX) (tab_cos _) (tab_sin _) (tab_cos' _) (tab_sin' _) (tab_w _))
  · exact (W2_arr m ρ c 8).trans (arr0_8 (V1 m ρ) c X (in_x m ρ c X hX) (tab_cos _) (tab_sin _) (tab_cos' _) (tab_sin' _) (tab_w _))
  · exact (W2_arr m ρ c 9).trans (arr0_9 (V1 m ρ) c Y (in_y m ρ c Y hY) (tab_cos _) (tab_sin _) (tab_cos' _) (tab_sin' _) (tab_w _))
  · exact (W2_arr m ρ c 10).trans (arr0_10 (V1 m ρ) c Y (in_y m ρ c Y hY) (tab_cos _) (tab_sin _) (tab_cos' _) (tab_sin' _) (tab_w _))

/-- The two halves of the bins, added. -/
theorem bins_add (r : Fin 144) (e : Fin 256) : bins X Y (ix3 0 r e) + bins X Y (ix3 1 r e) = ringE (lft X Y r) (rgt X Y r) e := by
  rw [← bins_ring X Y r e]
  rfl

include hX hY in
/-- What the kernel leaves at an image. -/
theorem last_value (k : Fin 48) (l : Fin 128) : (W5 m ρ c (Proc.devRef .tc main_v105) : Vec Ideal S48x128 .f32) (ix2 k l)
    = result X Y (m ((c.tc : Thread nD τ).loc main_arg5)) (m ((c.tc : Thread nD τ).loc main_arg6)) k := by
  rw [show (W5 m ρ c (Proc.devRef .tc main_v105) : Vec Ideal S48x128 .f32) = _ from (W5_arr m ρ c 2).trans (arr2_2 (V4 m ρ) c),
    in_bins m ρ c X Y hX hY, out2]
  have p0 : ∀ e : Fin 254, (V4 m ρ c main_v104 : Vec Ideal S8x256 .f32) (ix2 0 ⟨e, by omega⟩)
      = (m ((c.tc : Thread nD τ).loc main_arg5) : Vec Ideal S1x255 .f32) (ix2 0 ⟨1 + e, by omega⟩) := fun e => by
    refine (params0 (W3 m ρ c) e).trans ?_
    rw [show W3 m ρ c (Proc.devRef .tc main_arg5) = m ((c.tc : Thread nD τ).loc main_arg5) from W3_args m ρ c main_arg5 (by decide)]
  have p1 : (V4 m ρ c main_v104 : Vec Ideal S8x256 .f32) (ix2 1 0)
      = FloatOps.addf (F := Ideal) (φ := .f32) ((m ((c.tc : Thread nD τ).loc main_arg5) : Vec Ideal S1x255 .f32) (ix2 0 0)) ((m ((c.tc : Thread nD τ).loc main_arg6) : Vec Ideal S1 .f32) (ix1 0)) := by
    refine (params1 (W3 m ρ c)).trans ?_
    rw [show W3 m ρ c (Proc.devRef .tc main_arg5) = m ((c.tc : Thread nD τ).loc main_arg5) from W3_args m ρ c main_arg5 (by decide),
      show W3 m ρ c (Proc.devRef .tc main_arg6) = m ((c.tc : Thread nD τ).loc main_arg6) from W3_args m ρ c main_arg6 (by decide)]
  rw [p1]
  unfold result
  refine congrArg (· + _) (Finset.sum_congr rfl fun e _ => ?_)
  rw [p0, bins_add X Y, bins_add X Y, bins_add X Y]
  have l0 : lft X Y ⟨k, by omega⟩ = X k := by unfold lft; rw [dif_pos k.isLt]
  have r0 : rgt X Y ⟨k, by omega⟩ = Y k := by unfold rgt; rw [dif_pos k.isLt]
  have l1 : lft X Y ⟨48 + k, by omega⟩ = X k := by
    unfold lft; rw [dif_neg (by dsimp only; omega), dif_pos (by dsimp only; omega)]; exact congrArg X (Fin.ext (by dsimp only; omega))
  have r1 : rgt X Y ⟨48 + k, by omega⟩ = X k := by
    unfold rgt; rw [dif_neg (by dsimp only; omega), dif_pos (by dsimp only; omega)]; exact congrArg X (Fin.ext (by dsimp only; omega))
  have l2 : lft X Y ⟨96 + k, by omega⟩ = Y k := by
    unfold lft; rw [dif_neg (by dsimp only; omega), dif_neg (by dsimp only; omega)]; exact congrArg Y (Fin.ext (by dsimp only; omega))
  have r2 : rgt X Y ⟨96 + k, by omega⟩ = Y k := by
    unfold rgt; rw [dif_neg (by dsimp only; omega), dif_neg (by dsimp only; omega)]; exact congrArg Y (Fin.ext (by dsimp only; omega))
  rw [l0, r0, l1, r1, l2, r2]

include hX hY in
/-- What the kernel returns. -/
theorem kernel_value (b : Fin 16) (ch : Fin 3) : (W6 m ρ c (Proc.devRef .tc main_v108) : Vec Ideal S16x3x1 .f32) (ix3 b ch 0)
    = result X Y (m ((c.tc : Thread nD τ).loc main_arg5)) (m ((c.tc : Thread nD τ).loc main_arg6)) (img b ch) :=
  (tail3 (W5 m ρ c) b ch).trans (last_value m ρ c X Y hX hY (img b ch) 0)

end Whole

end Cert.Proof

end
-- ==== Proof.Run.lean ====
module

public import proofs.«01_k».proof.Proof.Tail

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-- The resources of the kernel's machine. -/
abbrev Res : Type := MT nD τ sig Unit (Elt Ideal) ℕ (UR sig nD τ) ℕ

variable (m : (ℓ : Loc nD τ sig) → Buf (Elt Ideal) ℓ) (ρ : Dev nD → PrngReg)

/-- Every run of the kernel ends with each array at what the last stretch of host operations leaves there. -/
theorem kernel_ends : θ_run defs (onTc (τ := τ) (main (F := Ideal))) ⟨m, fun _ => 0, ρ⟩
    (fun r => ∀ c : Dev nD, ∀ b ∈ Pipeline.ucRefs τ sig, r.2.mem (((c : Thread nD τ)).1, b) = W6 m ρ c b) := by
  refine Pipeline.θ_run_regions_kit_sems (pcfgs (F := Ideal)) adm (pdats m ρ) () cellOf_inj emb₁ defs₀ 𝒱₀ L lv m ρ main (segs m ρ)
    (fun c _ => by rw [main_run m ρ c]) ?apart (O₀ := 0) (hL := fun _ _ => rfl) (G := fun _ => iprop(emp))
    (u₀ := initOf (Pipeline.cells cfgs cellOf_inj) (Pipeline.launchToks cfgs cellOf_inj)) (hu₀ := ?tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, ?last⟩)
    (hinit := ?start) (QY := fun c s => ∀ b ∈ Pipeline.ucRefs τ sig, s.mem (((c : Thread nD τ)).1, b) = W6 m ρ c b)
    (hfin := ?read) (hQ := fun _ h _ => h)
  case apart =>
    simp only [segs, Pipeline.Seg.pipes_host, Pipeline.Seg.pipes_region, Pipeline.Seg.pipes_nil]
    decide
  case tokens =>
    iintro Ht
    imodintro
    isplitl [Ht]
    · iapply (show (ownU (initOf (Pipeline.cells cfgs cellOf_inj) (Pipeline.launchToks cfgs cellOf_inj)) : sProp Res)
          ⊢ BI.own (emb₁ (initOf (Pipeline.cells cfgs cellOf_inj) (Pipeline.launchToks cfgs cellOf_inj))) from .rfl)
      iexact Ht
    iapply (show (BI.emp : sProp Res) ⊢ bigSep Finset.univ (fun _ : Dev nD => (BI.emp : sProp Res)) from by rw [BI.bigSep_emp_const])
    iempintro
  case last =>
    intro c
    dsimp only [Pipeline.Seg.post, hseg, Pipeline.HostSeg.ofOps]
    iintro ⟨Ha, Hr, Ho⟩
    isplitl [Ha Hr]
    · isplitl [Ha]
      · iexact Ha
      iexact Hr
    iexact Ho
  case start =>
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Ha, -, Ho, -, Hr, -⟩, -⟩
    imodintro
    isplitl [Ha]
    · iexact Ha
    isplitl [Hr]
    · iexists _
      iexact Hr
    iexists ∅
    iexact Ho
  case read =>
    intro c s
    iintro ⟨⟨Ha, -⟩, Hs⟩
    unfold StableHlo.held
    imodintro
    iapply (pointsTo_read_all (Pipeline.ucRefs τ sig) (fun b => (((c : Thread nD τ)).1, b)) (W6 m ρ c) s)
    isplitl [Ha] <;> iassumption

/-- The kernel's run: its result is the last stretch's, its arguments are unchanged. -/
theorem kernel_run : θ_run defs (onTc (τ := τ) (main (F := Ideal))) ⟨m, fun _ => 0, ρ⟩ (fun r => ∀ c : Dev nD,
      r.2.mem ((c.tc : Thread nD τ).loc main_v108) = W6 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨h c _ (mem_uc main_v108 (by decide)),
     (h c _ (mem_uc main_arg0 (by decide))).trans (W6_main_arg0 m ρ c), (h c _ (mem_uc main_arg1 (by decide))).trans (W6_main_arg1 m ρ c),
     (h c _ (mem_uc main_arg2 (by decide))).trans (W6_main_arg2 m ρ c), (h c _ (mem_uc main_arg3 (by decide))).trans (W6_main_arg3 m ρ c),
     (h c _ (mem_uc main_arg4 (by decide))).trans (W6_main_arg4 m ρ c), (h c _ (mem_uc main_arg5 (by decide))).trans (W6_main_arg5 m ρ c),
     (h c _ (mem_uc main_arg6 (by decide))).trans (W6_main_arg6 m ρ c)⟩) (kernel_ends m ρ)

end Cert.Proof

end
-- ==== Proof.Points.lean ====
module

public import proofs.«01_k».proof.Proof.Tables
public import proofs.«01_k».proof.Proof.Gen.ReferenceIdeal.Run
public import Idealize.ShloMosaic.Lib.Routing.Ops

@[expose] public section

noncomputable section

namespace Cert.Proof

open Idealize.ShloMosaic Cert.ReferenceIdeal Cert.ReferenceIdeal.Value Cert.ReferenceIdeal.Facts₀
open scoped BigOperators

variable (W : Valuation τ sig (Elt Ideal))

/-- The reference's cosines. -/
theorem ref_cos (u v : Fin 512) : (res_main_v13 W : Vec Ideal S512x512 .f32) (ix2 u v) = ((cosT u v : ℝ) : EReal) := by
  unfold res_main_v13 res_main_v12 res_main_v0
  pointwise
  rw [angle u v u.isLt v.isLt]; rfl

/-- The reference's sines. -/
theorem ref_sin (u v : Fin 512) : (res_main_v14 W : Vec Ideal S512x512 .f32) (ix2 u v) = ((sinT u v : ℝ) : EReal) := by
  unfold res_main_v14 res_main_v12 res_main_v0
  pointwise
  rw [angle u v u.isLt v.isLt]; rfl

/-- One transform along the rows. -/
theorem rows_dot (x : Vec Ideal S16x3x512x512 .f32) (t : Vec Ideal S512x512 .f32) (b : Fin 16) (ch : Fin 3) (h l : Fin 512) :
    (transpose S16x3x512x512 [0, 1, 3, 2] (Host.dotGeneral (F := Ideal) (φ₁ := .f32) (φ₂ := .f32) dot_S16x3x512x512_S512x512_S16x3x512x512_2_1_013_0_n_n none x t) transposes_S16x3x512x512_S16x3x512x512_0_1_3_2 : Vec Ideal S16x3x512x512 .f32) (ix4 b ch h l)
      = ∑ k : Fin 512, (x (ix4 b ch k l) : EReal) * t (ix2 h k) := by
  pointwise

/-- One transform along the columns. -/
theorem cols_dot (x : Vec Ideal S16x3x512x512 .f32) (t : Vec Ideal S512x512 .f32) (b : Fin 16) (ch : Fin 3) (h w : Fin 512) :
    (Host.dotGeneral (F := Ideal) (φ₁ := .f32) (φ₂ := .f32) dot_S16x3x512x512_S512x512_S16x3x512x512_3_0_012_1_n_n none x t : Vec Ideal S16x3x512x512 .f32) (ix4 b ch h w)
      = ∑ l : Fin 512, (x (ix4 b ch h l) : EReal) * t (ix2 l w) := by
  pointwise

/-- A pixel read by its row and column. -/
theorem gather_at (x : Vec Ideal S16x3x512x512 .f32) (idx : IVec S184720x2 32) (b : Fin 16) (ch : Fin 3) (i : Fin 184720) (h w : Fin 512)
    (hh : (idx (ix2 i 0)).toInt = h) (hw : (idx (ix2 i 1)).toInt = w) :
    Host.gather gather_S16x3x512x512_S184720x2_S16x3x184720_01_23_n_n_23_1_16311 x idx (ix3 b ch i) = x (ix4 b ch h w) := by
  unfold Host.gather
  refine congrArg x (funext fun a => Fin.ext ?_)
  match a with
  | ⟨0, _⟩ => exact Nat.zero_add _
  | ⟨1, _⟩ => exact Nat.zero_add _
  | ⟨2, _⟩ =>
    have e : (gather_S16x3x512x512_S184720x2_S16x3x184720_01_23_n_n_23_1_16311.operandIdx (ix3 b ch i) idx 2).val = min (idx (ix2 i 0)).toInt.toNat 511 + 0 + 0 := by
      refine congrArg (fun q => min (BitVec.toInt (idx q)).toNat 511 + 0 + 0) ?_
      funext a
      match a with
      | ⟨0, _⟩ => rfl
      | ⟨1, _⟩ => rfl
    refine e.trans ?_
    rw [hh]; show min ((h : ℕ) : ℤ).toNat 511 + 0 + 0 = h
    omega
  | ⟨3, _⟩ =>
    have e : (gather_S16x3x512x512_S184720x2_S16x3x184720_01_23_n_n_23_1_16311.operandIdx (ix3 b ch i) idx 3).val = min (idx (ix2 i 1)).toInt.toNat 511 + 0 + 0 := by
      refine congrArg (fun q => min (BitVec.toInt (idx q)).toNat 511 + 0 + 0) ?_
      funext a
      match a with
      | ⟨0, _⟩ => rfl
      | ⟨1, _⟩ => rfl
    refine e.trans ?_
    rw [hw]; show min ((w : ℕ) : ℤ).toNat 511 + 0 + 0 = w
    omega

/-- Where a point's value is added: at its segment, image and channel. -/
theorem lands_at (idx : IVec S184720x1 32) (i : Fin 184720) (b b' : Fin 16) (ch ch' : Fin 3) (s : Fin 254) :
    scatter_S254x16x3_S184720x1_S184720x16x3_12_0_0_1.resultIdx? (ix3 i b ch) idx = some (ix3 s b' ch') ↔ (idx (ix2 i 0)).toInt = s ∧ b = b' ∧ ch = ch' := by
  have e : ∀ a, scatter_S254x16x3_S184720x1_S184720x16x3_12_0_0_1.start (ix3 i b ch) idx a + scatter_S254x16x3_S184720x1_S184720x16x3_12_0_0_1.window (ix3 i b ch) a
      = (![(idx (ix2 i 0)).toInt, (b : ℤ), (ch : ℤ)] : Fin 3 → ℤ) a := by
    intro a
    match a with
    | ⟨0, _⟩ =>
      refine (congrArg (fun q => BitVec.toInt (idx q) + ((0 : ℕ) : ℤ)) ?_ : _ = (idx (ix2 i 0)).toInt + ((0 : ℕ) : ℤ)).trans (add_zero _)
      funext a
      match a with
      | ⟨0, _⟩ => rfl
      | ⟨1, _⟩ => rfl
    | ⟨1, _⟩ => exact zero_add _
    | ⟨2, _⟩ => exact zero_add _
  unfold ScatterDims.resultIdx?
  constructor
  · intro q
    split at q
    · next hq =>
      have q0 := congrArg (fun f : S254x16x3.Idx => (f 0).val) (Option.some.inj q)
      have q1 := congrArg (fun f : S254x16x3.Idx => (f 1).val) (Option.some.inj q)
      have q2 := congrArg (fun f : S254x16x3.Idx => (f 2).val) (Option.some.inj q)
      dsimp only at q0 q1 q2
      have h0 := (hq 0).1
      rw [e 0] at q0 h0; rw [e 1] at q1; rw [e 2] at q2
      change ((idx (ix2 i 0)).toInt).toNat = s.val at q0
      change ((b : ℕ) : ℤ).toNat = b'.val at q1
      change ((ch : ℕ) : ℤ).toNat = ch'.val at q2
      change 0 ≤ (idx (ix2 i 0)).toInt at h0
      exact ⟨by omega, Fin.ext (by omega), Fin.ext (by omega)⟩
    · cases q
  · rintro ⟨hs, rfl, rfl⟩
    rw [dif_pos]
    · refine congrArg some (funext fun a => Fin.ext ?_)
      dsimp only
      rw [e a]
      match a with
      | ⟨0, _⟩ => show (idx (ix2 i 0)).toInt.toNat = s.val; omega
      | ⟨1, _⟩ => rfl
      | ⟨2, _⟩ => rfl
    · intro a
      rw [e a]
      match a with
      | ⟨0, _⟩ => show 0 ≤ (idx (ix2 i 0)).toInt ∧ (idx (ix2 i 0)).toInt < ((254 : ℕ) : ℤ); have := s.isLt; omega
      | ⟨1, _⟩ => show 0 ≤ (b : ℤ) ∧ (b : ℤ) < ((16 : ℕ) : ℤ); have := b.isLt; omega
      | ⟨2, _⟩ => show 0 ≤ (ch : ℤ) ∧ (ch : ℤ) < ((3 : ℕ) : ℤ); have := ch.isLt; omega

open Classical in
/-- The values added at a segment: those of its points. -/
theorem scatter_at (idx : IVec S184720x1 32) (u : Vec Ideal S184720x16x3 .f32) (x : Vec Ideal S254x16x3 .f32) (hx : ∀ j, x j = (0 : EReal)) (s : Fin 254) (b : Fin 16) (ch : Fin 3) :
    (Host.scatterAdd (F := Ideal) (φ := .f32) scatter_S254x16x3_S184720x1_S184720x16x3_12_0_0_1 x idx u : Vec Ideal S254x16x3 .f32) (ix3 s b ch)
      = ∑ i : Fin 184720, if (idx (ix2 i 0)).toInt = s then (u (ix3 i b ch) : EReal) else 0 := by
  show (x (ix3 s b ch) : EReal) + ∑ j ∈ Finset.univ.filter (fun j => scatter_S254x16x3_S184720x1_S184720x16x3_12_0_0_1.resultIdx? j idx = some (ix3 s b ch)), (u j : EReal) = _
  rw [hx, zero_add, ← Finset.sum_filter]
  refine Finset.sum_nbij' (fun j => j 0) (fun i => ix3 i b ch) ?_ ?_ ?_ ?_ ?_
  · intro j hj
    idx_vars j
    exact Finset.mem_filter.2 ⟨Finset.mem_univ _, ((lands_at idx _ _ _ _ _ _).1 (Finset.mem_filter.1 hj).2).1⟩
  · intro i hi
    exact Finset.mem_filter.2 ⟨Finset.mem_univ _, (lands_at idx _ _ _ _ _ _).2 ⟨(Finset.mem_filter.1 hi).2, rfl, rfl⟩⟩
  · intro j hj
    idx_vars j
    obtain ⟨-, rfl, rfl⟩ := (lands_at idx _ _ _ _ _ _).1 (Finset.mem_filter.1 hj).2
    rfl
  · intro i _; rfl
  · intro j hj
    idx_vars j
    obtain ⟨-, rfl, rfl⟩ := (lands_at idx _ _ _ _ _ _).1 (Finset.mem_filter.1 hj).2
    rfl

end Cert.Proof

end
-- ==== Proof.Ref.lean ====
module

public import proofs.«01_k».proof.Proof.Points

@[expose] public section

noncomputable section

namespace Cert.Proof

open Idealize.ShloMosaic Cert.ReferenceIdeal Cert.ReferenceIdeal.Value Cert.ReferenceIdeal.Facts₀
open scoped BigOperators

/-- A small word's signed value. -/
theorem word_toInt (n : ℕ) (h : n < 1024) : (BitVec.ofNat 32 n).toInt = (n : ℤ) := by
  rw [BitVec.toInt_eq_toNat_of_lt] <;> simp <;> omega

/-- The points' coordinates, paired. -/
def pairs (r c : IVec S184720 32) : IVec S184720x2 32 :=
  concatenate S184720x2 1 [⟨S184720x1, (broadcastInDim S184720x1 ![0] bcast_S184720_S184720x1_0 (select (cmpi .slt r (broadcastInDim S184720 ![] bcast_S_S184720 (constantI S_ 32 0#32))) (addi r (broadcastInDim S184720 ![] bcast_S_S184720 (constantI S_ 32 512#32))) r))⟩, ⟨S184720x1, (broadcastInDim S184720x1 ![0] bcast_S184720_S184720x1_0 (select (cmpi .slt c (broadcastInDim S184720 ![] bcast_S_S184720 (constantI S_ 32 0#32))) (addi c (broadcastInDim S184720 ![] bcast_S_S184720 (constantI S_ 32 512#32))) c))⟩] concatenates_S184720x1_S184720x1_S184720x2_d1

/-- A coordinate that is not negative is kept. -/
theorem keep (n : ℕ) (h : n < 1024) (x : BitVec 32) : Scalar.select (IntOp.cmpi .slt (BitVec.ofNat 32 n) 0#32) x (BitVec.ofNat 32 n) = BitVec.ofNat 32 n := by
  have : IntOp.cmpi .slt (BitVec.ofNat 32 n) 0#32 = 0#1 := by
    show BitVec.ofBool (BitVec.slt (BitVec.ofNat 32 n) 0#32) = 0#1
    have : BitVec.slt (BitVec.ofNat 32 n) 0#32 = false := by
      rw [BitVec.slt_eq_decide, word_toInt n h]; simp
    rw [this]; rfl
  rw [this]; rfl

/-- The first of a point's pair is its row. -/
theorem pairs_row (r c : IVec S184720 32) (i : Fin 184720) (n : ℕ) (hn : n < 1024) (h : r (ix1 i) = BitVec.ofNat 32 n) : (pairs r c (ix2 i 0)).toInt = n := by
  have : pairs r c (ix2 i 0) = BitVec.ofNat 32 n := by
    unfold pairs
    pointwise
    rw [h, keep n hn]
  rw [this, word_toInt n hn]

/-- The second of a point's pair is its column. -/
theorem pairs_col (r c : IVec S184720 32) (i : Fin 184720) (n : ℕ) (hn : n < 1024) (h : c (ix1 i) = BitVec.ofNat 32 n) : (pairs r c (ix2 i 1)).toInt = n := by
  have : pairs r c (ix2 i 1) = BitVec.ofNat 32 n := by
    unfold pairs
    pointwise
    rw [h, keep n hn]
  rw [this, word_toInt n hn]

/-- A gathered spectrum, by points. -/
theorem gathered (x : Vec Ideal S16x3x512x512 .f32) (r c : IVec S184720 32) (i : Fin 184720) (b : Fin 16) (ch : Fin 3) (h w : Fin 512)
    (hr : r (ix1 i) = BitVec.ofNat 32 h) (hc : c (ix1 i) = BitVec.ofNat 32 w) :
    (transpose S184720x16x3 [2, 0, 1] (Host.gather gather_S16x3x512x512_S184720x2_S16x3x184720_01_23_n_n_23_1_16311 x (pairs r c)) transposes_S16x3x184720_S184720x16x3_2_0_1 : Vec Ideal S184720x16x3 .f32) (ix3 i b ch)
      = x (ix4 b ch h w) := by
  refine Eq.trans ?_ (gather_at x (pairs r c) b ch i h w (pairs_row r c i h (by omega) hr) (pairs_col r c i w (by omega) hc))
  pointwise

/-- The transform's real part. -/
def specRe (x : Vec Ideal S16x3x512x512 .f32) (co si : Vec Ideal S512x512 .f32) : Vec Ideal S16x3x512x512 .f32 :=
  subf (F := Ideal) (φ := .f32) (Host.dotGeneral (F := Ideal) (φ₁ := .f32) (φ₂ := .f32) dot_S16x3x512x512_S512x512_S16x3x512x512_3_0_012_1_n_n none (transpose S16x3x512x512 [0, 1, 3, 2] (Host.dotGeneral (F := Ideal) (φ₁ := .f32) (φ₂ := .f32) dot_S16x3x512x512_S512x512_S16x3x512x512_2_1_013_0_n_n none x co) transposes_S16x3x512x512_S16x3x512x512_0_1_3_2) co) (Host.dotGeneral (F := Ideal) (φ₁ := .f32) (φ₂ := .f32) dot_S16x3x512x512_S512x512_S16x3x512x512_3_0_012_1_n_n none (transpose S16x3x512x512 [0, 1, 3, 2] (Host.dotGeneral (F := Ideal) (φ₁ := .f32) (φ₂ := .f32) dot_S16x3x512x512_S512x512_S16x3x512x512_2_1_013_0_n_n none x si) transposes_S16x3x512x512_S16x3x512x512_0_1_3_2) si)

/-- The transform's imaginary part. -/
def specIm (x : Vec Ideal S16x3x512x512 .f32) (co si : Vec Ideal S512x512 .f32) : Vec Ideal S16x3x512x512 .f32 :=
  Host.negf (F := Ideal) (φ := .f32) (addf (F := Ideal) (φ := .f32) (Host.dotGeneral (F := Ideal) (φ₁ := .f32) (φ₂ := .f32) dot_S16x3x512x512_S512x512_S16x3x512x512_3_0_012_1_n_n none (transpose S16x3x512x512 [0, 1, 3, 2] (Host.dotGeneral (F := Ideal) (φ₁ := .f32) (φ₂ := .f32) dot_S16x3x512x512_S512x512_S16x3x512x512_2_1_013_0_n_n none x co) transposes_S16x3x512x512_S16x3x512x512_0_1_3_2) si) (Host.dotGeneral (F := Ideal) (φ₁ := .f32) (φ₂ := .f32) dot_S16x3x512x512_S512x512_S16x3x512x512_3_0_012_1_n_n none (transpose S16x3x512x512 [0, 1, 3, 2] (Host.dotGeneral (F := Ideal) (φ₁ := .f32) (φ₂ := .f32) dot_S16x3x512x512_S512x512_S16x3x512x512_2_1_013_0_n_n none x si) transposes_S16x3x512x512_S16x3x512x512_0_1_3_2) co))

section Spec

variable (x : Vec Ideal S16x3x512x512 .f32) (co si : Vec Ideal S512x512 .f32) (X : Fin 16 → Fin 3 → Fin 512 → Fin 512 → EReal)
  (hx : ∀ b ch r l, x (ix4 b ch r l) = X b ch r l)
  (hco : ∀ u v : Fin 512, co (ix2 u v) = ((cosT u v : ℝ) : EReal)) (hsi : ∀ u v : Fin 512, si (ix2 u v) = ((sinT u v : ℝ) : EReal))

include hx in
/-- Both transforms, of an image, by two real tables. -/
theorem both_dots (s t : Vec Ideal S512x512 .f32) (p q : ℕ → ℕ → ℝ) (hs : ∀ u v : Fin 512, s (ix2 u v) = ((p u v : ℝ) : EReal)) (ht : ∀ u v : Fin 512, t (ix2 u v) = ((q u v : ℝ) : EReal))
    (b : Fin 16) (ch : Fin 3) (h w : Fin 512) :
    (Host.dotGeneral (F := Ideal) (φ₁ := .f32) (φ₂ := .f32) dot_S16x3x512x512_S512x512_S16x3x512x512_3_0_012_1_n_n none (transpose S16x3x512x512 [0, 1, 3, 2] (Host.dotGeneral (F := Ideal) (φ₁ := .f32) (φ₂ := .f32) dot_S16x3x512x512_S512x512_S16x3x512x512_2_1_013_0_n_n none x s) transposes_S16x3x512x512_S16x3x512x512_0_1_3_2) t : Vec Ideal S16x3x512x512 .f32) (ix4 b ch h w)
      = eDots' (X b ch) p q h w := by
  refine (cols_dot _ t b ch h w).trans ?_
  refine Finset.sum_congr rfl fun l _ => ?_
  rw [rows_dot x s b ch h l, ht]
  refine congrArg (fun z : EReal => z * ((q l w : ℝ) : EReal)) (Finset.sum_congr rfl fun k _ => ?_)
  rw [hx, hs]

include hx hco hsi in
/-- The real part is the spectrum's. -/
theorem specRe_at (b : Fin 16) (ch : Fin 3) (h w : Fin 512) : specRe x co si (ix4 b ch h w) = refReE (X b ch) h w := by
  unfold specRe
  exact (congrArg₂ (fun a b : EReal => a - b) (both_dots x X hx co co cosT cosT hco hco b ch h w) (both_dots x X hx si si sinT sinT hsi hsi b ch h w))

include hx hco hsi in
/-- The imaginary part is the spectrum's. -/
theorem specIm_at (b : Fin 16) (ch : Fin 3) (h w : Fin 512) : specIm x co si (ix4 b ch h w) = refImE (X b ch) h w := by
  unfold specIm
  exact (congrArg₂ (fun a b : EReal => -(a + b)) (both_dots x X hx co si cosT sinT hco hsi b ch h w) (both_dots x X hx si co sinT cosT hsi hco b ch h w))

end Spec

/-- The sum over a segment's points is the sum over its ring, when every ring pixel is a point as often as circles pass through it. -/
theorem by_pixel (row col : Fin 184720 → Fin 512) (sg : Fin 184720 → BitVec 32) (hs : ∀ i, sg i = seg (row i : ℕ) (col i : ℕ))
    (hn : ∀ h w : Fin 512, (((Finset.univ.filter fun i => row i = h ∧ col i = w).card : ℕ) : ℝ) = times (h : ℕ) (w : ℕ)) (q : ℕ → ℕ → ℝ) (s : Fin 254) :
    ∑ i : Fin 184720, (if (sg i).toInt = s then q (row i) (col i) else 0) = ringSum q (BitVec.ofNat 32 s) := by
  have one : ∀ i, (if (sg i).toInt = s then q (row i) (col i) else 0)
      = ∑ h : Fin 512, ∑ w : Fin 512, (if row i = h ∧ col i = w then 1 else 0) * (q h w * if seg (h : ℕ) (w : ℕ) = BitVec.ofNat 32 s then 1 else 0) := by
    intro i
    rw [Finset.sum_eq_single (row i), Finset.sum_eq_single (col i)]
    · have : (sg i).toInt = s ↔ seg (row i : ℕ) (col i : ℕ) = BitVec.ofNat 32 s := by
        rw [hs i, ← word_toInt s (by omega)]
        exact BitVec.toInt_inj
      simp only [this, and_self, if_true, one_mul, mul_ite, mul_one, mul_zero]
    · intro w _ hw; rw [if_neg (fun e => hw e.2.symm), zero_mul]
    · intro h; exact absurd (Finset.mem_univ _) h
    · intro h _ hh; exact Finset.sum_eq_zero fun w _ => by rw [if_neg (fun e => hh e.1.symm), zero_mul]
    · intro h; exact absurd (Finset.mem_univ _) h
  rw [Finset.sum_congr rfl fun i _ => one i, Finset.sum_comm]
  unfold ringSum
  rw [Finset.sum_range]
  refine Finset.sum_congr rfl fun h _ => ?_
  rw [Finset.sum_comm, Finset.sum_range]
  refine Finset.sum_congr rfl fun w _ => ?_
  rw [← Finset.sum_mul, Finset.sum_boole, hn h w]

end Cert.Proof

end
-- ==== Proof.RefValue.lean ====
module

public import proofs.«01_k».proof.Proof.Ref
public import proofs.«01_k».proof.Proof.Tail

@[expose] public section

noncomputable section

namespace Cert.Proof

open Idealize.ShloMosaic Cert.ReferenceIdeal Cert.ReferenceIdeal.Value Cert.ReferenceIdeal.Facts₀
open scoped BigOperators

/-- The square root of a sum of two squares. -/
theorem sqrt_squares (a b : ℝ) : Ideal.sqrt (((a : ℝ) : EReal) * ((a : ℝ) : EReal) + ((b : ℝ) : EReal) * ((b : ℝ) : EReal)) = ((Real.sqrt (a * a + b * b) : ℝ) : EReal) := by
  rw [← EReal.coe_mul, ← EReal.coe_mul, ← EReal.coe_add, Ideal.sqrt_coe, if_neg (not_lt.2 (add_nonneg (mul_self_nonneg _) (mul_self_nonneg _)))]

/-- Products of extended reals: one, the sum of two, the difference of two. -/
def mulTwo (a b : EReal) : EReal := a * b
@[inherit_doc mulTwo] def mulAdd (a b c d : EReal) : EReal := a * b + c * d
@[inherit_doc mulTwo] def mulSub (a b c d : EReal) : EReal := a * b - c * d

/-! ## Sums over a segment's points -/

/-- The cross spectrum of two images at a frequency, real part. -/
def crossE (x y : Fin 512 → Fin 512 → EReal) (h w : ℕ) : EReal := mulAdd (refReE x h w) (refReE y h w) (refImE x h w) (refImE y h w)
/-- The cross spectrum of two images at a frequency, imaginary part. -/
def turnE (x y : Fin 512 → Fin 512 → EReal) (h w : ℕ) : EReal := mulSub (refImE x h w) (refReE y h w) (refReE x h w) (refImE y h w)

section Points

variable (row col : Fin 184720 → Fin 512)

/-- The sum over a segment's points. -/
def ptSum (q : ℕ → ℕ → EReal) (s : Fin 254) : EReal := ∑ i : Fin 184720, if (seg (row i : ℕ) (col i : ℕ)).toInt = s then q (row i) (col i) else 0

variable (hn : ∀ h w : Fin 512, (((Finset.univ.filter fun i => row i = h ∧ col i = w).card : ℕ) : ℝ) = times (h : ℕ) (w : ℕ))

include hn in
/-- Of reals it is the sum over the segment's ring. -/
theorem ptSum_real (q : ℕ → ℕ → EReal) (r : ℕ → ℕ → ℝ) (hq : ∀ h w, q h w = ((r h w : ℝ) : EReal)) (s : Fin 254) :
    ptSum row col q s = ((ringSum r (BitVec.ofNat 32 s) : ℝ) : EReal) := by
  unfold ptSum
  rw [← by_pixel row col (fun i => seg (row i : ℕ) (col i : ℕ)) (fun _ => rfl) hn r s, coe_sum]
  exact Finset.sum_congr rfl fun i _ => ite_coe Iff.rfl (hq _ _)

/-- A term of an energy is not negative. -/
theorem point_pos (x : Fin 512 → Fin 512 → EReal) (s : Fin 254) (i : Fin 184720) :
    (0 : EReal) ≤ if (seg (row i : ℕ) (col i : ℕ)).toInt = s then crossE x x (row i) (col i) else 0 := by
  split_ifs
  · exact two_pos _ _
  · exact le_rfl

include hn in
/-- The energy of an image with an infinite entry is infinite on every ring. -/
theorem ptSum_top (x : Fin 512 → Fin 512 → EReal) (k l : Fin 512) (h : Inf (x k l)) (s : Fin 254) : ptSum row col (crossE x x) s = ⊤ := by
  have ht := hn ⟨256, by norm_num⟩ ⟨256 - (s + 1), by omega⟩
  have e := times_axis s s.isLt
  dsimp only at ht
  rw [e] at ht
  have hp : 0 < (Finset.univ.filter fun i => row i = (⟨256, by norm_num⟩ : Fin 512) ∧ col i = (⟨256 - (s + 1), by omega⟩ : Fin 512)).card := by
    rw [Nat.pos_iff_ne_zero]
    intro z
    rw [z] at ht
    norm_num at ht
  obtain ⟨i, hi⟩ := Finset.card_pos.1 hp
  obtain ⟨h1, h2⟩ := (Finset.mem_filter.1 hi).2
  refine sum_top _ _ (fun i _ => point_pos row col x s i) i (Finset.mem_univ _) ?_
  rw [h1, h2]
  have g : (seg (256 : ℕ) (256 - (s + 1) : ℕ)).toInt = s := by rw [seg_axis s s.isLt, word_toInt s (by omega)]
  rw [if_pos g]
  exact two_inf _ _ (ref_inf x k l h _ _)

include hn in
/-- An image's energy is the kernel's. -/
theorem ptSum_energy (x : Fin 512 → Fin 512 → EReal) (s : Fin 254) : ptSum row col (crossE x x) s = ringE x x s := by
  rcases real_or_inf x with ⟨k, l, h⟩ | ⟨r, rfl⟩
  · rw [ptSum_top row col hn x k l h s, ringE_top x k l h s s.isLt]
  · rw [ringE_up]
    refine ptSum_real row col hn _ _ (fun h w => ?_) s
    unfold crossE mulAdd
    rw [refReE_up, refImE_up, ← EReal.coe_mul, ← EReal.coe_mul, ← EReal.coe_add]
    rfl

/-- Where an image's energy vanishes so do its sums with any other. -/
theorem ptSum_zero (x y : Fin 512 → Fin 512 → EReal) (s : Fin 254) (h : ptSum row col (crossE y y) s = 0) :
    (ptSum row col (crossE x y) s = 0 ∧ ptSum row col (turnE x y) s = 0) ∧ ptSum row col (crossE y x) s = 0 ∧ ptSum row col (turnE y x) s = 0 := by
  have h1 := fun i => (Finset.sum_eq_zero_iff_of_nonneg fun i _ => point_pos row col y s i).1 h i (Finset.mem_univ i)
  have h2 : ∀ i, (seg (row i : ℕ) (col i : ℕ)).toInt = s → refReE y (row i) (col i) = 0 ∧ refImE y (row i) (col i) = 0 := fun i hi => by
    have t := h1 i
    rw [if_pos hi] at t
    exact two_zero _ _ t
  have key : ∀ q : ℕ → ℕ → EReal, (∀ h w, refReE y h w = 0 → refImE y h w = 0 → q h w = 0) → ptSum row col q s = 0 := fun q hq => by
    refine Finset.sum_eq_zero fun i _ => ?_
    split_ifs with hi
    · exact hq _ _ (h2 i hi).1 (h2 i hi).2
    · rfl
  refine ⟨⟨key _ ?_, key _ ?_⟩, key _ ?_, key _ ?_⟩ <;> intro h w a b <;> simp only [crossE, turnE, mulAdd, mulSub, a, b, mul_zero, zero_mul, add_zero, sub_zero]

include hn in
/-- A segment's ratio is the kernel's. -/
theorem same_ratio (x y : Fin 512 → Fin 512 → EReal) (s : Fin 254) :
    Ideal.div (Ideal.sqrt (mulAdd (ptSum row col (crossE x y) s) (ptSum row col (crossE x y) s) (ptSum row col (turnE x y) s) (ptSum row col (turnE x y) s)))
      (Ideal.sqrt (ptSum row col (crossE x x) s * ptSum row col (crossE y y) s)) = ratio (ringE x y s) (ringE x x s) (ringE y y s) := by
  have zero : (ptSum row col (crossE x x) s = 0 ∨ ptSum row col (crossE y y) s = 0) →
      Ideal.sqrt (mulAdd (ptSum row col (crossE x y) s) (ptSum row col (crossE x y) s) (ptSum row col (turnE x y) s) (ptSum row col (turnE x y) s))
        = FloatOps.absf (F := Ideal) (φ := .f32) (ringE x y s) := fun h => by
    have hs : ptSum row col (crossE x y) s = 0 ∧ ptSum row col (turnE x y) s = 0 :=
      h.elim (fun a => (ptSum_zero row col y x s a).2) (fun a => (ptSum_zero row col x y s a).1)
    have hk : ringE x y s = 0 := by
      rw [ptSum_energy row col hn, ptSum_energy row col hn] at h
      exact h.elim (fun a => (ringE_zero y x s a).2) (fun a => (ringE_zero x y s a).1)
    rw [hs.1, hs.2, hk, ← EReal.coe_zero, mulAdd, sqrt_squares, absf_coe]
    simp
  rcases real_or_inf x with ⟨k, l, h⟩ | ⟨a, ha⟩
  · unfold ratio
    rw [← ptSum_energy row col hn x, ← ptSum_energy row col hn y]
    exact same_div _ _ _ _ (Finset.sum_nonneg fun i _ => point_pos row col x s i) (Finset.sum_nonneg fun i _ => point_pos row col y s i)
      (Or.inl (ptSum_top row col hn x k l h s)) zero
  rcases real_or_inf y with ⟨k, l, h⟩ | ⟨b, hb⟩
  · unfold ratio
    rw [← ptSum_energy row col hn x, ← ptSum_energy row col hn y]
    exact same_div _ _ _ _ (Finset.sum_nonneg fun i _ => point_pos row col x s i) (Finset.sum_nonneg fun i _ => point_pos row col y s i)
      (Or.inr (ptSum_top row col hn y k l h s)) zero
  · have num : Ideal.sqrt (mulAdd (ptSum row col (crossE x y) s) (ptSum row col (crossE x y) s) (ptSum row col (turnE x y) s) (ptSum row col (turnE x y) s))
        = FloatOps.absf (F := Ideal) (φ := .f32) (ringE x y s) := by
      subst ha hb
      rw [ptSum_real row col hn (crossE (up a) (up b)) (corr a b) (fun h w => by
          unfold crossE mulAdd; rw [refReE_up, refImE_up, refReE_up, refImE_up, ← EReal.coe_mul, ← EReal.coe_mul, ← EReal.coe_add]; rfl) s,
        ptSum_real row col hn (turnE (up a) (up b)) (fun h w => imF a h w * reF b h w - reF a h w * imF b h w) (fun h w => by
          unfold turnE mulSub; rw [refReE_up, refImE_up, refReE_up, refImE_up, ← EReal.coe_mul, ← EReal.coe_mul, ← EReal.coe_sub]) s,
        ring_odd (fun h w => imF a h w * reF b h w - reF a h w * imF b h w) _ (fun h w _ hh _ hw => cross_flip a b h w (by omega) (by omega)), ringE_up, mulAdd, sqrt_squares, absf_coe]
      unfold ringCorr
      rw [mul_zero, add_zero, Real.sqrt_mul_self_eq_abs]
    rw [num, ptSum_energy row col hn x, ptSum_energy row col hn y]
    rfl

end Points

section Value

variable (W : Valuation τ sig (Elt Ideal)) (X Y : Fin 48 → Fin 512 → Fin 512 → EReal) (row col : Fin 184720 → Fin 512)
  (hX : ∀ (k : Fin 48) (r l : Fin 512), (W (Proc.devRef .tc main_arg0) : Vec Ideal S16x3x512x512 .f32) (ix4 (batchOf k) (chanOf k) r l) = X k r l)
  (hY : ∀ (k : Fin 48) (r l : Fin 512), (W (Proc.devRef .tc main_arg1) : Vec Ideal S16x3x512x512 .f32) (ix4 (batchOf k) (chanOf k) r l) = Y k r l)
  (hr : ∀ i, (W (Proc.devRef .tc main_arg2) : IVec S184720 32) (ix1 i) = BitVec.ofNat 32 (row i))
  (hc : ∀ i, (W (Proc.devRef .tc main_arg3) : IVec S184720 32) (ix1 i) = BitVec.ofNat 32 (col i))
  (hs : ∀ i, (W (Proc.devRef .tc main_arg4) : IVec S184720 32) (ix1 i) = seg (row i : ℕ) (col i : ℕ))
  (hn : ∀ h w : Fin 512, (((Finset.univ.filter fun i => row i = h ∧ col i = w).card : ℕ) : ℝ) = times (h : ℕ) (w : ℕ))

include hX in
/-- The images, by batch entry and channel. -/
theorem by_img (b : Fin 16) (ch : Fin 3) (r l : Fin 512) : (W (Proc.devRef .tc main_arg0) : Vec Ideal S16x3x512x512 .f32) (ix4 b ch r l) = X (img b ch) r l := by
  rw [← hX (img b ch) r l]
  have e1 : batchOf (img b ch) = b := Fin.ext (by dsimp only [img, batchOf, chanOf]; omega)
  have e2 : chanOf (img b ch) = ch := Fin.ext (by dsimp only [img, batchOf, chanOf]; omega)
  rw [e1, e2]

include hY in
/-- The targets, by batch entry and channel. -/
theorem by_img' (b : Fin 16) (ch : Fin 3) (r l : Fin 512) : (W (Proc.devRef .tc main_arg1) : Vec Ideal S16x3x512x512 .f32) (ix4 b ch r l) = Y (img b ch) r l := by
  rw [← hY (img b ch) r l]
  have e1 : batchOf (img b ch) = b := Fin.ext (by dsimp only [img, batchOf, chanOf]; omega)
  have e2 : chanOf (img b ch) = ch := Fin.ext (by dsimp only [img, batchOf, chanOf]; omega)
  rw [e1, e2]

include hX hr hc in
/-- The images' spectrum at a point, real part. -/
theorem point_re (i : Fin 184720) (b : Fin 16) (ch : Fin 3) : (res_main_v40 W : Vec Ideal S184720x16x3 .f32) (ix3 i b ch) = refReE (X (img b ch)) (row i) (col i) :=
  (gathered (specRe (W (Proc.devRef .tc main_arg0)) (res_main_v13 W) (res_main_v14 W)) _ _ i b ch (row i) (col i) (hr i) (hc i)).trans
    (specRe_at _ _ _ (fun b ch => X (img b ch)) (by_img W X hX) (ref_cos W) (ref_sin W) b ch (row i) (col i))

include hX hr hc in
/-- The images' spectrum at a point, imaginary part. -/
theorem point_im (i : Fin 184720) (b : Fin 16) (ch : Fin 3) : (res_main_v55 W : Vec Ideal S184720x16x3 .f32) (ix3 i b ch) = refImE (X (img b ch)) (row i) (col i) :=
  (gathered (specIm (W (Proc.devRef .tc main_arg0)) (res_main_v13 W) (res_main_v14 W)) _ _ i b ch (row i) (col i) (hr i) (hc i)).trans
    (specIm_at _ _ _ (fun b ch => X (img b ch)) (by_img W X hX) (ref_cos W) (ref_sin W) b ch (row i) (col i))

include hY hr hc in
/-- The targets' spectrum at a point, real part. -/
theorem point_re' (i : Fin 184720) (b : Fin 16) (ch : Fin 3) : (res_main_v81 W : Vec Ideal S184720x16x3 .f32) (ix3 i b ch) = refReE (Y (img b ch)) (row i) (col i) :=
  (gathered (specRe (W (Proc.devRef .tc main_arg1)) (res_main_v13 W) (res_main_v14 W)) _ _ i b ch (row i) (col i) (hr i) (hc i)).trans
    (specRe_at _ _ _ (fun b ch => Y (img b ch)) (by_img' W Y hY) (ref_cos W) (ref_sin W) b ch (row i) (col i))

include hY hr hc in
/-- The targets' spectrum at a point, imaginary part. -/
theorem point_im' (i : Fin 184720) (b : Fin 16) (ch : Fin 3) : (res_main_v96 W : Vec Ideal S184720x16x3 .f32) (ix3 i b ch) = refImE (Y (img b ch)) (row i) (col i) :=
  (gathered (specIm (W (Proc.devRef .tc main_arg1)) (res_main_v13 W) (res_main_v14 W)) _ _ i b ch (row i) (col i) (hr i) (hc i)).trans
    (specIm_at _ _ _ (fun b ch => Y (img b ch)) (by_img' W Y hY) (ref_cos W) (ref_sin W) b ch (row i) (col i))

/-- The segments' sums of an array of the points. -/
def segSum (u : Vec Ideal S184720x16x3 .f32) : Vec Ideal S254x16x3 .f32 :=
  Host.scatterAdd (F := Ideal) (φ := .f32) scatter_S254x16x3_S184720x1_S184720x16x3_12_0_0_1 (broadcastInDim S254x16x3 ![] bcast_S_S254x16x3 (constant (F := Ideal) S_ .f32 0x00000000#32)) (broadcastInDim S184720x1 ![0] bcast_S184720_S184720x1_0 (W (Proc.devRef .tc main_arg4))) u

include hs in
/-- A segment's sum is the sum over its points. -/
theorem segSum_at (u : Vec Ideal S184720x16x3 .f32) (b : Fin 16) (ch : Fin 3) (q : ℕ → ℕ → EReal) (hu : ∀ i, u (ix3 i b ch) = q (row i) (col i)) (s : Fin 254) :
    segSum W u (ix3 s b ch) = ptSum row col q s := by
  unfold segSum
  refine (scatter_at _ u _ (fun j => ?_) s b ch).trans ?_
  · pointwise
  refine Finset.sum_congr rfl fun i _ => ?_
  rw [hu i, show (broadcastInDim S184720x1 ![0] bcast_S184720_S184720x1_0 (W (Proc.devRef .tc main_arg4) : IVec S184720 32) : IVec S184720x1 32) (ix2 i 0) = (W (Proc.devRef .tc main_arg4) : IVec S184720 32) (ix1 i) from by pointwise, hs i]

include hX hY hr hc hs in
/-- The correlation's real part. -/
theorem cre (s : Fin 254) (b : Fin 16) (ch : Fin 3) : (res_main_v102 W : Vec Ideal S254x16x3 .f32) (ix3 s b ch) = ptSum row col (crossE (X (img b ch)) (Y (img b ch))) s := by
  refine segSum_at W row col hs (addf (F := Ideal) (φ := .f32) (mulf (F := Ideal) (φ := .f32) (res_main_v40 W) (res_main_v81 W)) (mulf (F := Ideal) (φ := .f32) (res_main_v55 W) (res_main_v96 W))) b ch _ (fun i => ?_) s
  show mulAdd (res_main_v40 W (ix3 i b ch)) (res_main_v81 W (ix3 i b ch)) (res_main_v55 W (ix3 i b ch)) (res_main_v96 W (ix3 i b ch)) = _
  rw [point_re W X row col hX hr hc, point_re' W Y row col hY hr hc, point_im W X row col hX hr hc, point_im' W Y row col hY hr hc]
  rfl

include hX hY hr hc hs in
/-- The correlation's imaginary part. -/
theorem cim (s : Fin 254) (b : Fin 16) (ch : Fin 3) : (res_main_v108 W : Vec Ideal S254x16x3 .f32) (ix3 s b ch) = ptSum row col (turnE (X (img b ch)) (Y (img b ch))) s := by
  refine segSum_at W row col hs (subf (F := Ideal) (φ := .f32) (mulf (F := Ideal) (φ := .f32) (res_main_v55 W) (res_main_v81 W)) (mulf (F := Ideal) (φ := .f32) (res_main_v40 W) (res_main_v96 W))) b ch _ (fun i => ?_) s
  show mulSub (res_main_v55 W (ix3 i b ch)) (res_main_v81 W (ix3 i b ch)) (res_main_v40 W (ix3 i b ch)) (res_main_v96 W (ix3 i b ch)) = _
  rw [point_re W X row col hX hr hc, point_re' W Y row col hY hr hc, point_im W X row col hX hr hc, point_im' W Y row col hY hr hc]
  rfl

include hX hr hc hs in
/-- The images' energy. -/
theorem energy (s : Fin 254) (b : Fin 16) (ch : Fin 3) :
    segSum W (mulf (F := Ideal) (φ := .f32) (res_main_v112 W) (res_main_v112 W)) (ix3 s b ch) = ptSum row col (crossE (X (img b ch)) (X (img b ch))) s := by
  refine segSum_at W row col hs _ b ch _ (fun i => ?_) s
  have e : (res_main_v112 W : Vec Ideal S184720x16x3 .f32) (ix3 i b ch) = Ideal.sqrt (crossE (X (img b ch)) (X (img b ch)) (row i) (col i)) := by
    show Ideal.sqrt (mulAdd (res_main_v40 W (ix3 i b ch)) (res_main_v40 W (ix3 i b ch)) (res_main_v55 W (ix3 i b ch)) (res_main_v55 W (ix3 i b ch))) = _
    rw [point_re W X row col hX hr hc, point_im W X row col hX hr hc]; rfl
  show mulTwo (res_main_v112 W (ix3 i b ch)) (res_main_v112 W (ix3 i b ch)) = _
  rw [e]
  exact sqrt_sq _ (two_pos _ _)

include hY hr hc hs in
/-- The targets' energy. -/
theorem energy' (s : Fin 254) (b : Fin 16) (ch : Fin 3) :
    segSum W (mulf (F := Ideal) (φ := .f32) (res_main_v120 W) (res_main_v120 W)) (ix3 s b ch) = ptSum row col (crossE (Y (img b ch)) (Y (img b ch))) s := by
  refine segSum_at W row col hs _ b ch _ (fun i => ?_) s
  have e : (res_main_v120 W : Vec Ideal S184720x16x3 .f32) (ix3 i b ch) = Ideal.sqrt (crossE (Y (img b ch)) (Y (img b ch)) (row i) (col i)) := by
    show Ideal.sqrt (mulAdd (res_main_v81 W (ix3 i b ch)) (res_main_v81 W (ix3 i b ch)) (res_main_v96 W (ix3 i b ch)) (res_main_v96 W (ix3 i b ch))) = _
    rw [point_re' W Y row col hY hr hc, point_im' W Y row col hY hr hc]; rfl
  show mulTwo (res_main_v120 W (ix3 i b ch)) (res_main_v120 W (ix3 i b ch)) = _
  rw [e]
  exact sqrt_sq _ (two_pos _ _)

/-- The segments' ratios, by images. -/
def ratios : Vec Ideal S16x3x254 .f32 :=
  transpose S16x3x254 [1, 2, 0] (Host.divf (F := Ideal) (φ := .f32) (Host.sqrt (F := Ideal) (φ := .f32) (addf (F := Ideal) (φ := .f32) (mulf (F := Ideal) (φ := .f32) (res_main_v102 W) (res_main_v102 W)) (mulf (F := Ideal) (φ := .f32) (res_main_v108 W) (res_main_v108 W))))
    (Host.sqrt (F := Ideal) (φ := .f32) (mulf (F := Ideal) (φ := .f32) (segSum W (mulf (F := Ideal) (φ := .f32) (res_main_v112 W) (res_main_v112 W))) (segSum W (mulf (F := Ideal) (φ := .f32) (res_main_v120 W) (res_main_v120 W)))))) transposes_S254x16x3_S16x3x254_1_2_0

include hX hY hr hc hs hn in
/-- A segment's ratio is the kernel's. -/
theorem ratios_at (b : Fin 16) (ch : Fin 3) (s : Fin 254) :
    ratios W (ix3 b ch s) = ratio (ringE (X (img b ch)) (Y (img b ch)) s) (ringE (X (img b ch)) (X (img b ch)) s) (ringE (Y (img b ch)) (Y (img b ch)) s) := by
  have e : ratios W (ix3 b ch s) = Ideal.div (Ideal.sqrt (mulAdd (res_main_v102 W (ix3 s b ch)) (res_main_v102 W (ix3 s b ch)) (res_main_v108 W (ix3 s b ch)) (res_main_v108 W (ix3 s b ch))))
      (Ideal.sqrt ((segSum W (mulf (F := Ideal) (φ := .f32) (res_main_v112 W) (res_main_v112 W)) (ix3 s b ch) : EReal) * segSum W (mulf (F := Ideal) (φ := .f32) (res_main_v120 W) (res_main_v120 W)) (ix3 s b ch))) := by
    unfold ratios mulAdd
    generalize segSum W _ = p
    generalize segSum W _ = q
    generalize res_main_v102 W = p'
    generalize res_main_v108 W = q'
    pointwise
  rw [e, cre W X Y row col hX hY hr hc hs, cim W X Y row col hX hY hr hc hs, energy W X row col hX hr hc hs, energy' W Y row col hY hr hc hs]
  exact same_ratio row col hn _ _ s

/-- The last step: the weights' sum over a one and the ratios, and the bias. -/
theorem head (A : Vec Ideal S16x3x254 .f32) (wt : Vec Ideal S1x255 .f32) (bi : Vec Ideal S1 .f32) (b : Fin 16) (ch : Fin 3) :
    (addf (F := Ideal) (φ := .f32) (Host.dotGeneral (F := Ideal) (φ₁ := .f32) (φ₂ := .f32) dot_S16x3x255_S255x1_S16x3x1_2_0_01_1_n_n none (concatenate S16x3x255 2 [⟨S16x3x1, (broadcastInDim S16x3x1 ![] bcast_S_S16x3x1 (constant (F := Ideal) S_ .f32 0x3F800000#32))⟩, ⟨S16x3x254, A⟩] concatenates_S16x3x1_S16x3x254_S16x3x255_d2) (transpose S255x1 [1, 0] wt transposes_S1x255_S255x1_1_0)) (broadcastInDim S16x3x1 ![0, 1, 2] bcast_S1x1x1_S16x3x1_0_1_2 (broadcastInDim S1x1x1 ![2] bcast_S1_S1x1x1_2 bi)) : Vec Ideal S16x3x1 .f32) (ix3 b ch 0)
      = (∑ e : Fin 254, (A (ix3 b ch e) : EReal) * wt (ix2 0 ⟨1 + e, by omega⟩)) + ((wt (ix2 0 0) : EReal) + bi (ix1 0)) := by
  have d : ∀ B : Vec Ideal S16x3x255 .f32, (Host.dotGeneral (F := Ideal) (φ₁ := .f32) (φ₂ := .f32) dot_S16x3x255_S255x1_S16x3x1_2_0_01_1_n_n none B (transpose S255x1 [1, 0] wt transposes_S1x255_S255x1_1_0) : Vec Ideal S16x3x1 .f32) (ix3 b ch 0)
      = ∑ k : Fin 255, (B (ix3 b ch k) : EReal) * wt (ix2 0 k) := fun B => by pointwise
  have c0 : (concatenate S16x3x255 2 [⟨S16x3x1, (broadcastInDim S16x3x1 ![] bcast_S_S16x3x1 (constant (F := Ideal) S_ .f32 0x3F800000#32))⟩, ⟨S16x3x254, A⟩] concatenates_S16x3x1_S16x3x254_S16x3x255_d2 : Vec Ideal S16x3x255 .f32) (ix3 b ch 0) = (1 : EReal) := by
    pointwise
  have c1 : ∀ e : Fin 254, (concatenate S16x3x255 2 [⟨S16x3x1, (broadcastInDim S16x3x1 ![] bcast_S_S16x3x1 (constant (F := Ideal) S_ .f32 0x3F800000#32))⟩, ⟨S16x3x254, A⟩] concatenates_S16x3x1_S16x3x254_S16x3x255_d2 : Vec Ideal S16x3x255 .f32) (ix3 b ch ⟨1 + e, by omega⟩) = A (ix3 b ch e) := fun e => by
    pointwise
  show (_ : EReal) + (broadcastInDim S16x3x1 ![0, 1, 2] bcast_S1x1x1_S16x3x1_0_1_2 (broadcastInDim S1x1x1 ![2] bcast_S1_S1x1x1_2 bi) : Vec Ideal S16x3x1 .f32) (ix3 b ch 0) = _
  rw [show (broadcastInDim S16x3x1 ![0, 1, 2] bcast_S1x1x1_S16x3x1_0_1_2 (broadcastInDim S1x1x1 ![2] bcast_S1_S1x1x1_2 bi) : Vec Ideal S16x3x1 .f32) (ix3 b ch 0) = bi (ix1 0) from by pointwise,
    d, Fin.sum_univ_succ, c0, one_mul, add_comm (wt (ix2 0 0) : EReal), add_assoc]
  refine congrArg (· + _) (Finset.sum_congr rfl fun e _ => ?_)
  have : e.succ = (⟨1 + e, by omega⟩ : Fin 255) := Fin.ext (by simp [add_comm])
  rw [this, c1]

/-- The reference's result. -/
def refOut : Vec Ideal S16x3x1 .f32 :=
  addf (F := Ideal) (φ := .f32) (Host.dotGeneral (F := Ideal) (φ₁ := .f32) (φ₂ := .f32) dot_S16x3x255_S255x1_S16x3x1_2_0_01_1_n_n none (concatenate S16x3x255 2 [⟨S16x3x1, (broadcastInDim S16x3x1 ![] bcast_S_S16x3x1 (constant (F := Ideal) S_ .f32 0x3F800000#32))⟩, ⟨S16x3x254, ratios W⟩] concatenates_S16x3x1_S16x3x254_S16x3x255_d2) (transpose S255x1 [1, 0] (W (Proc.devRef .tc main_arg5)) transposes_S1x255_S255x1_1_0)) (broadcastInDim S16x3x1 ![0, 1, 2] bcast_S1x1x1_S16x3x1_0_1_2 (broadcastInDim S1x1x1 ![2] bcast_S1_S1x1x1_2 (W (Proc.devRef .tc main_arg6))))

include hX hY hr hc hs hn in
/-- The reference's result is the kernel's. -/
theorem refOut_at (b : Fin 16) (ch : Fin 3) : refOut W (ix3 b ch 0) = result X Y (W (Proc.devRef .tc main_arg5)) (W (Proc.devRef .tc main_arg6)) (img b ch) := by
  have h := head (ratios W) (W (Proc.devRef .tc main_arg5)) (W (Proc.devRef .tc main_arg6)) b ch
  simp only [ratios_at W X Y row col hX hY hr hc hs hn] at h
  exact h

/-- The reference's run: its result, and its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v139) = refOut (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1, (h c).2⟩) (run (F := Ideal) m ρ)

end Value

end Cert.Proof

end
-- ==== Proof.Pre.lean ====
module

public import proofs.«01_k».proof.Proof.RefValue
public import proofs.«01_k».proof.Proof.Gen.Pre_ring_points
public import Idealize.ShloMosaic.Lib.ReduceAll
public import Idealize.ShloMosaic.Lib.IdealHost

@[expose] public section

noncomputable section

namespace Cert.Proof

open Idealize.ShloMosaic Cert.Pre_ring_points Cert.Pre_ring_points.Facts
open scoped BigOperators

/-- A coordinate's distance from the centre. -/
def off (r : IVec S184720 32) : Vec Ideal S184720 .f32 :=
  subf (F := Ideal) (φ := .f32) (sitofp (F := Ideal) .f32 r) (broadcastInDim S184720 ![] bcast_S_S184720 (constant (F := Ideal) S_ .f32 0x43800000#32))

/-- Whether each point is a pixel with its own segment. -/
def proper (r c s : IVec S184720 32) : IVec S184720 1 :=
  andi (andi (andi (andi (cmpi .sge r (broadcastInDim S184720 ![] bcast_S_S184720 (constantI S_ 32 0#32))) (cmpi .slt r (broadcastInDim S184720 ![] bcast_S_S184720 (constantI S_ 32 512#32))))
    (cmpi .sge c (broadcastInDim S184720 ![] bcast_S_S184720 (constantI S_ 32 0#32)))) (cmpi .slt c (broadcastInDim S184720 ![] bcast_S_S184720 (constantI S_ 32 512#32))))
    (cmpi .eq s (fptosi (F := Ideal) (φ := .f32) 32 (subf (F := Ideal) (φ := .f32) (Host.roundeven (F := Ideal) (φ := .f32) (Host.sqrt (F := Ideal) (φ := .f32) (addf (F := Ideal) (φ := .f32) (mulf (F := Ideal) (φ := .f32) (off r) (off r)) (mulf (F := Ideal) (φ := .f32) (off c) (off c)))))
      (broadcastInDim S184720 ![] bcast_S_S184720 (constant (F := Ideal) S_ .f32 0x3F800000#32)))))

/-- How many points each pixel is. -/
def count (r c : IVec S184720 32) : Vec Ideal S262144 .f32 :=
  Host.scatterAdd (F := Ideal) (φ := .f32) scatter_S262144_S184720x1_S184720_n_0_0_1 (broadcastInDim S262144 ![] bcast_S_S262144 (constant (F := Ideal) S_ .f32 0x00000000#32))
    (broadcastInDim S184720x1 ![0] bcast_S184720_S184720x1_0 (addi (muli r (broadcastInDim S184720 ![] bcast_S_S184720 (constantI S_ 32 512#32))) c))
    (broadcastInDim S184720 ![] bcast_S_S184720 (constant (F := Ideal) S_ .f32 0x3F800000#32))

/-- The same number over all pixels. -/
abbrev all (w : BitVec 32) : Vec Ideal S512x512 .f32 := broadcastInDim S512x512 ![] bcast_S_S512x512 (constant (F := Ideal) S_ .f32 w)
/-- The pixels' rows and columns, from the centre. -/
def dh : Vec Ideal S512x512 .f32 := subf (F := Ideal) (φ := .f32) (sitofp (F := Ideal) .f32 (iotaInDim S512x512 32 0)) (all 0x43800000#32)
@[inherit_doc dh] def dw : Vec Ideal S512x512 .f32 := subf (F := Ideal) (φ := .f32) (sitofp (F := Ideal) .f32 (iotaInDim S512x512 32 1)) (all 0x43800000#32)
/-- Their absolute values. -/
def ah : Vec Ideal S512x512 .f32 := Host.absf (F := Ideal) (φ := .f32) dh
@[inherit_doc ah] def aw : Vec Ideal S512x512 .f32 := Host.absf (F := Ideal) (φ := .f32) dw
/-- The larger, the smaller, the squared distance, the rounded radius. -/
def tFar : Vec Ideal S512x512 .f32 := maximumf (F := Ideal) (φ := .f32) ah aw
@[inherit_doc tFar] def tNear : Vec Ideal S512x512 .f32 := minimumf (F := Ideal) (φ := .f32) ah aw
@[inherit_doc tFar] def tSqd : Vec Ideal S512x512 .f32 := addf (F := Ideal) (φ := .f32) (mulf (F := Ideal) (φ := .f32) ah ah) (mulf (F := Ideal) (φ := .f32) aw aw)
@[inherit_doc tFar] def tRad : Vec Ideal S512x512 .f32 :=
  Host.roundeven (F := Ideal) (φ := .f32) (Host.sqrt (F := Ideal) (φ := .f32) (addf (F := Ideal) (φ := .f32) (mulf (F := Ideal) (φ := .f32) dh dh) (mulf (F := Ideal) (φ := .f32) dw dw)))

/-- How often circles pass through each pixel. -/
def tab : Vec Ideal S512x512 .f32 :=
  select (andi (andi (andi (cmpf (F := Ideal) (φ := .f32) .oge tRad (all 0x3F800000#32)) (cmpf (F := Ideal) (φ := .f32) .ole tRad (all 0x437E0000#32)))
      (cmpf (F := Ideal) (φ := .f32) .olt (subf (F := Ideal) (φ := .f32) tSqd tFar) (mulf (F := Ideal) (φ := .f32) tRad tRad)))
      (cmpf (F := Ideal) (φ := .f32) .ole (mulf (F := Ideal) (φ := .f32) tRad tRad) (addf (F := Ideal) (φ := .f32) tSqd tFar)))
    (select (ori (cmpf (F := Ideal) (φ := .f32) .oeq tNear (all 0x00000000#32)) (cmpf (F := Ideal) (φ := .f32) .oeq tNear tFar)) (mulf (F := Ideal) (φ := .f32) (all 0x40000000#32) (all 0x3F800000#32)) (all 0x3F800000#32))
    (mulf (F := Ideal) (φ := .f32) (all 0x00000000#32) (all 0x3F800000#32))

set_option maxRecDepth 8192 in
/-- The precondition's parts. -/
theorem pre_parts (x y : Vec Ideal S16x3x512x512 .f32) (r c s : IVec S184720 32) (w : Vec Ideal S1x255 .f32) (b : Vec Ideal S1 .f32) :
    fn (F := Ideal) x y r c s w b = andi (cmpf (F := Ideal) (φ := .f32) .oeq (shapeCast S512x512 (count r c) shapeCasts_S262144_S512x512) tab)
      (broadcastInDim S512x512 ![] bcast_S_S512x512 (Host.reduce IntOp.andi (proper r c s) (constantI S_ 1 1#1) reducesTo_S184720_S_d0 h_S_)) := rfl

/-- Both of two bits. -/
theorem both {p q : BitVec 1} (h : IntOp.andi p q = 1#1) : p = 1#1 ∧ q = 1#1 := by revert p q; decide

/-- The rounded radius, from the two coordinates. -/
theorem round_coe (a b : ℝ) : Ideal.liftRound Ideal.roundHalfEven (Ideal.sqrt (((a * a + b * b : ℝ)) : EReal))
    = (((Ideal.roundHalfEven (Real.sqrt (a * a + b * b)) : ℤ) : ℝ) : EReal) := by
  rw [Ideal.sqrt_coe, if_neg (not_lt.2 (add_nonneg (mul_self_nonneg _) (mul_self_nonneg _))), Ideal.liftRound_coe]

/-- The table is how often circles pass through each pixel. -/
theorem tab_at (h w : Fin 512) : tab (ix2 h w) = ((times (h : ℕ) (w : ℕ) : ℝ) : EReal) := by
  unfold tab tRad tSqd tNear tFar ah aw dh dw
  pointwise
  simp only [flt_word _ (show (h : ℕ) < 1024 by omega), flt_word _ (show (w : ℕ) < 1024 by omega), c256, c254, c2]
  simp only [← EReal.coe_sub, absf_coe, max_coe, min_coe, ← EReal.coe_mul, ← EReal.coe_add, round_coe]
  simp only [← EReal.coe_one, ← EReal.coe_zero, ← EReal.coe_mul, ← EReal.coe_add, ← EReal.coe_sub, EReal.coe_lt_coe_iff, EReal.coe_le_coe_iff, EReal.coe_eq_coe_iff,
    select_dec, and_dec, or_dec, ← Bool.decide_and, ← Bool.decide_or, decide_eq_true_eq]
  simp only [abs_mul_abs_self]
  unfold times OnRing rad sqd far near
  refine ite_coe (by simp only [and_assoc]) (ite_coe Iff.rfl rfl)

/-- The constant 1. -/
theorem c1 : Ideal.ofBits .f32 0x3F800000#32 = ((1 : ℝ) : EReal) := by
  simp [Ideal.ofBits, Ideal.ieee]; norm_num [← EReal.coe_mul]

/-- Where a point is counted: at its pixel. -/
theorem counted_at (idx : IVec S184720x1 32) (i : Fin 184720) (p : Fin 262144) :
    scatter_S262144_S184720x1_S184720_n_0_0_1.resultIdx? (ix1 i) idx = some (ix1 p) ↔ (idx (ix2 i 0)).toInt = p := by
  have e : scatter_S262144_S184720x1_S184720_n_0_0_1.start (ix1 i) idx 0 + scatter_S262144_S184720x1_S184720_n_0_0_1.window (ix1 i) 0 = (idx (ix2 i 0)).toInt := by
    refine (congrArg (fun q => BitVec.toInt (idx q) + ((0 : ℕ) : ℤ)) ?_ : _ = (idx (ix2 i 0)).toInt + ((0 : ℕ) : ℤ)).trans (add_zero _)
    funext a
    match a with
    | ⟨0, _⟩ => rfl
    | ⟨1, _⟩ => rfl
  unfold ScatterDims.resultIdx?
  constructor
  · intro q
    split at q
    · next hq =>
      have q0 := congrArg (fun f : S262144.Idx => (f 0).val) (Option.some.inj q)
      dsimp only at q0
      have h0 := (hq 0).1
      rw [e] at q0 h0
      change ((idx (ix2 i 0)).toInt).toNat = p.val at q0
      omega
    · cases q
  · intro hs
    rw [dif_pos]
    · refine congrArg some (funext fun a => Fin.ext ?_)
      match a with
      | ⟨0, _⟩ =>
        show (scatter_S262144_S184720x1_S184720_n_0_0_1.start (ix1 i) idx 0 + scatter_S262144_S184720x1_S184720_n_0_0_1.window (ix1 i) 0).toNat = p.val
        rw [e]; omega
    · intro a
      match a with
      | ⟨0, _⟩ =>
        show 0 ≤ scatter_S262144_S184720x1_S184720_n_0_0_1.start (ix1 i) idx 0 + scatter_S262144_S184720x1_S184720_n_0_0_1.window (ix1 i) 0
          ∧ scatter_S262144_S184720x1_S184720_n_0_0_1.start (ix1 i) idx 0 + scatter_S262144_S184720x1_S184720_n_0_0_1.window (ix1 i) 0 < ((262144 : ℕ) : ℤ)
        rw [e]; have := p.isLt; omega

/-- The count at a pixel, of points given by their rows and columns. -/
theorem count_at (r c : IVec S184720 32) (row col : Fin 184720 → Fin 512) (hr : ∀ i, r (ix1 i) = BitVec.ofNat 32 (row i)) (hc : ∀ i, c (ix1 i) = BitVec.ofNat 32 (col i)) (h w : Fin 512) :
    (shapeCast S512x512 (count r c) shapeCasts_S262144_S512x512 : Vec Ideal S512x512 .f32) (ix2 h w)
      = ((((Finset.univ.filter fun i => row i = h ∧ col i = w).card : ℕ) : ℝ) : EReal) := by
  have e : (shapeCast S512x512 (count r c) shapeCasts_S262144_S512x512 : Vec Ideal S512x512 .f32) (ix2 h w) = count r c (ix1 ⟨h * 512 + w, by omega⟩) := by
    generalize count r c = q
    pointwise
  have idx : ∀ i : Fin 184720, ((broadcastInDim S184720x1 ![0] bcast_S184720_S184720x1_0 (addi (muli r (broadcastInDim S184720 ![] bcast_S_S184720 (constantI S_ 32 512#32))) c) : IVec S184720x1 32) (ix2 i 0)).toInt
      = ((row i * 512 + col i : ℕ) : ℤ) := fun i => by
    have : (broadcastInDim S184720x1 ![0] bcast_S184720_S184720x1_0 (addi (muli r (broadcastInDim S184720 ![] bcast_S_S184720 (constantI S_ 32 512#32))) c) : IVec S184720x1 32) (ix2 i 0)
        = BitVec.ofNat 32 (row i * 512 + col i) := by
      pointwise
      rw [hr, hc]
      show BitVec.ofNat 32 (row i) * BitVec.ofNat 32 512 + BitVec.ofNat 32 (col i) = _
      rw [← BitVec.ofNat_mul, ← BitVec.ofNat_add]
    rw [this, BitVec.toInt_eq_toNat_of_lt] <;> simp <;> omega
  rw [e]
  show (Ideal.ofBits .f32 0x00000000#32) + ∑ j ∈ Finset.univ.filter (fun j => scatter_S262144_S184720x1_S184720_n_0_0_1.resultIdx? j
      (broadcastInDim S184720x1 ![0] bcast_S184720_S184720x1_0 (addi (muli r (broadcastInDim S184720 ![] bcast_S_S184720 (constantI S_ 32 512#32))) c)) = some (ix1 ⟨h * 512 + w, by omega⟩)),
      Ideal.ofBits .f32 0x3F800000#32 = _
  rw [show Ideal.ofBits .f32 0x00000000#32 = 0 by simp [Ideal.ofBits, Ideal.ieee], show Ideal.ofBits .f32 0x3F800000#32 = ((1 : ℝ) : EReal) from c1, zero_add,
    ← coe_sum, Finset.sum_const, nsmul_eq_mul, mul_one]
  refine congrArg (fun n : ℕ => ((n : ℝ) : EReal)) (Finset.card_nbij' (fun j => j 0) (fun i => ix1 i) ?_ ?_ ?_ ?_)
  · intro j hj
    idx_vars j
    have := (counted_at _ _ _).1 (Finset.mem_filter.1 hj).2
    rw [idx] at this
    refine Finset.mem_filter.2 ⟨Finset.mem_univ _, ?_⟩
    constructor <;> apply Fin.ext <;> dsimp only at this ⊢ <;> omega
  · intro i hi
    refine Finset.mem_filter.2 ⟨Finset.mem_univ _, (counted_at _ _ _).2 ?_⟩
    rw [idx]
    obtain ⟨rfl, rfl⟩ := (Finset.mem_filter.1 hi).2
    rfl
  · intro j _
    idx_vars j
  · intro i _; rfl

/-- A word that is a row or column number. -/
theorem coord (x : BitVec 32) (h0 : IntOp.cmpi .sge x 0#32 = 1#1) (h1 : IntOp.cmpi .slt x 512#32 = 1#1) : ∃ n : Fin 512, x = BitVec.ofNat 32 n := by
  have a := IntOp.cmpi_sge.1 h0
  have b := IntOp.cmpi_slt.1 h1
  have h : x.toNat < 512 := by
    have e0 : (0#32 : BitVec 32).toInt = 0 := rfl
    have e1 : (512#32 : BitVec 32).toInt = 512 := rfl
    rw [e0] at a; rw [e1] at b
    rw [BitVec.toInt_eq_toNat_cond] at a b
    split at a <;> omega
  exact ⟨⟨x.toNat, h⟩, by simp⟩

/-- A proper point: a pixel, and its own segment. -/
theorem proper_at (r c s : IVec S184720 32) (i : Fin 184720) (h : proper r c s (ix1 i) = 1#1) :
    ∃ a b : Fin 512, r (ix1 i) = BitVec.ofNat 32 a ∧ c (ix1 i) = BitVec.ofNat 32 b ∧ s (ix1 i) = seg (a : ℕ) (b : ℕ) := by
  obtain ⟨h, hs⟩ := both h
  obtain ⟨h, c1⟩ := both h
  obtain ⟨h, c0⟩ := both h
  obtain ⟨r0, r1⟩ := both h
  obtain ⟨a, ha⟩ := coord (r (ix1 i)) r0 r1
  obtain ⟨b, hb⟩ := coord (c (ix1 i)) c0 c1
  refine ⟨a, b, ha, hb, ?_⟩
  have e := StableHlo.Predicate.cmpi_eq_iff.1 hs
  refine e.trans ?_
  have oa : off r (ix1 i) = (((a : ℕ) - 256 : ℝ) : EReal) := by
    unfold off; pointwise; rw [ha, flt_word _ (by omega), c256, ← EReal.coe_sub]
  have ob : off c (ix1 i) = (((b : ℕ) - 256 : ℝ) : EReal) := by
    unfold off; pointwise; rw [hb, flt_word _ (by omega), c256, ← EReal.coe_sub]
  generalize off r = p at oa
  generalize off c = q at ob
  pointwise
  rw [oa, ob, ← EReal.coe_mul, ← EReal.coe_mul, ← EReal.coe_add, round_coe, ← EReal.coe_one, ← EReal.coe_sub]
  rfl

/-- What the precondition says: points that are pixels with their segments, each pixel as often as circles pass through it. -/
theorem pre_says (x y : Vec Ideal S16x3x512x512 .f32) (r c s : IVec S184720 32) (w : Vec Ideal S1x255 .f32) (b : Vec Ideal S1 .f32) (h : fn (F := Ideal) x y r c s w b = fun _ => 1#1) :
    ∃ row col : Fin 184720 → Fin 512, (∀ i, r (ix1 i) = BitVec.ofNat 32 (row i)) ∧ (∀ i, c (ix1 i) = BitVec.ofNat 32 (col i))
      ∧ (∀ i, s (ix1 i) = seg (row i : ℕ) (col i : ℕ))
      ∧ ∀ u v : Fin 512, (((Finset.univ.filter fun i => row i = u ∧ col i = v).card : ℕ) : ℝ) = times (u : ℕ) (v : ℕ) := by
  rw [pre_parts] at h
  have all_ : ∀ i, proper r c s (ix1 i) = 1#1 := fun i =>
    Host.reduce_andi_all _ _ _ _ _ (both (congrFun h (ix2 0 0))).2 (ix1 i)
  choose row col hr hc hs using fun i => proper_at r c s i (all_ i)
  refine ⟨row, col, hr, hc, hs, fun u v => ?_⟩
  have q := (both (congrFun h (ix2 u v))).1
  have e : (cmpf (F := Ideal) (φ := .f32) .oeq (shapeCast S512x512 (count r c) shapeCasts_S262144_S512x512) tab : IVec S512x512 1) (ix2 u v)
      = BitVec.ofBool (decide (((((Finset.univ.filter fun i => row i = u ∧ col i = v).card : ℕ) : ℝ) : EReal) = ((times (u : ℕ) (v : ℕ) : ℝ) : EReal))) := by
    rw [← tab_at u v, ← count_at r c row col hr hc u v]
    generalize (shapeCast S512x512 (count r c) shapeCasts_S262144_S512x512 : Vec Ideal S512x512 .f32) = p
    generalize tab = t
    pointwise
  have q' := e.symm.trans q
  exact EReal.coe_eq_coe_iff.1 (of_decide_eq_true ((StableHlo.Predicate.ofBool_eq_one_iff _).1 q'))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ring_points
public import proofs.«01_k».proof.Proof.Run
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The reference runs, ends with its arguments unchanged, and declares no semaphore. -/
theorem reference_frame : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run m ρ)

/-- The same under the precondition. -/
theorem reference_frame_pre : Cert.quiescent_ReferenceIdeal_pre_ring_points := fun m ρ _ => reference_frame m ρ trivial

/-- Kernel and reference end with the same result, of points that are the rings' pixels. -/
theorem same_result : Cert.algebraic_KernelIdeal_ReferenceIdeal_pre_ring_points := by
  intro m ρ m' ρ' pre agree
  refine ⟨fun c => Cert.KernelIdeal.Gen.W6 m ρ c (Proc.devRef .tc Cert.KernelIdeal.main_v108), kernel_run m ρ, ?_⟩
  refine (θ_run (Cert.ReferenceIdeal.defs (F := Ideal)) _ _).mono (fun _ h c => ⟨(h c).1.trans ?_, (h c).2⟩) (reference_run m' ρ')
  obtain ⟨row, col, hr, hc, hs, hn⟩ := pre_says _ _ _ _ _ _ _ (pre c)
  obtain ⟨a0, a1, a2, a3, a4, a5, a6⟩ := agree c
  rw [← a2] at hr
  rw [← a3] at hc
  rw [← a4] at hs
  have right := refOut_at (StableHlo.launchContents m' c) _ _ row col (fun _ _ _ => congrFun a0 _) (fun _ _ _ => congrFun a1 _) hr hc hs hn
  have left := kernel_value m ρ c _ _ (fun _ _ _ => rfl) (fun _ _ _ => rfl)
  rw [← a5, ← a6] at left
  funext j
  idx_vars j
  rw [Subsingleton.elim j2 0]
  exact (right j0 j1).trans (left j0 j1).symm

/-- The certificate's claims. -/
theorem claim : Cert.Claim :=
  ⟨Cert.Kernel.Gen.facts, Cert.KernelIdeal.Gen.facts, Cert.ReferenceIdeal.Gen.facts, Cert.Pre_ring_points.Gen.facts,
    fun m ρ _ => Cert.Kernel.Gen.frame m ρ, fun m ρ _ => Cert.KernelIdeal.Gen.frame m ρ, fun m ρ _ => Cert.KernelIdeal.Gen.frame m ρ,
    reference_frame, reference_frame_pre, trivial, same_result⟩

end Cert.Proof

end
